-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 16384]⟩ (Layout.meshBlock [2, 4, 4] ![[], [2]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x512 : Shape := ⟨2, ![256, 512]⟩
abbrev S512x4096 : Shape := ⟨2, ![512, 4096]⟩
abbrev S256x16384 : Shape := ⟨2, ![256, 16384]⟩
abbrev S3 : Shape := ⟨1, ![3]⟩
abbrev S256x4096 : Shape := ⟨2, ![256, 4096]⟩
abbrev S_ : Shape := ⟨0, ![]⟩
abbrev S1 : Shape := ⟨1, ![1]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256x16384, .f32⟩
  | .local _ .vmem, ⟨0, _⟩ => ⟨S256x512, .f32⟩
  | .local _ .vmem, ⟨1, _⟩ => ⟨S512x4096, .f32⟩
  | .local _ .vmem, ⟨2, _⟩ => ⟨S256x16384, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let c0_18 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32 : BitVec 32 := 4096#32
  let v36 : BitVec 32 := Scalar.muli v8 c4096_i32
  let v37 : Index := Scalar.indexCast v36
  ![0, v37.toNat]
def k0_dev1 (d0 : Dev nD) : Nat :=
  let c0_i32_21 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_20 : BitVec 32 := 16#32
  let v40 : BitVec 32 := Scalar.muli v2 c16_i32_20
  let v41 : BitVec 32 := Scalar.addi c0_i32_21 v40
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_22 : BitVec 32 := 4#32
  let v42 : BitVec 32 := Scalar.muli v5 c4_i32_22
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_23 : BitVec 32 := 1#32
  let v44 : BitVec 32 := Scalar.muli v19 c1_i32_23
  let v45 : BitVec 32 := Scalar.addi v43 v44
  v45.toNat
def k0_dev2 (d0 : Dev nD) : Nat :=
  let c0_i32_26 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_25 : BitVec 32 := 16#32
  let v46 : BitVec 32 := Scalar.muli v2 c16_i32_25
  let v47 : BitVec 32 := Scalar.addi c0_i32_26 v46
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_27 : BitVec 32 := 4#32
  let v48 : BitVec 32 := Scalar.muli v5 c4_i32_27
  let v49 : BitVec 32 := Scalar.addi v47 v48
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_28 : BitVec 32 := 1#32
  let v50 : BitVec 32 := Scalar.muli v30 c1_i32_28
  let v51 : BitVec 32 := Scalar.addi v49 v50
  v51.toNat
def k0_off2 (d0 : Dev nD) (c0_i32_30 : BitVec 32) : Fin 2 → Nat :=
  let c0_i32_45 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v52 : BitVec 32 := Scalar.subi v8 c0_i32_30
  let c4_i32_31 : BitVec 32 := 4#32
  let c0_i32_32 : BitVec 32 := 0#32
  let v53 : BitVec 1 := Scalar.cmpi .eq c4_i32_31 c0_i32_32
  let c1_i32_33 : BitVec 32 := 1#32
  let v54 : BitVec 32 := Scalar.select v53 c1_i32_33 c4_i32_31
  let v55 : BitVec 32 := Scalar.remsi v52 v54
  let c0_i32_35 : BitVec 32 := 0#32
  let v57 : BitVec 1 := Scalar.cmpi .slt v55 c0_i32_35
  let c0_i32_36 : BitVec 32 := 0#32
  let v58 : BitVec 1 := Scalar.cmpi .slt v54 c0_i32_36
  let v59 : BitVec 1 := Scalar.xori v57 v58
  let c0_i32_34 : BitVec 32 := 0#32
  let v56 : BitVec 1 := Scalar.cmpi .ne v55 c0_i32_34
  let v60 : BitVec 1 := Scalar.andi v59 v56
  let v61 : BitVec 32 := Scalar.addi v55 v54
  let v62 : BitVec 32 := Scalar.select v60 v61 v55
  let c4096_i32_38 : BitVec 32 := 4096#32
  let v64 : BitVec 32 := Scalar.muli v62 c4096_i32_38
  ![0, v64.toNat]
def k0_dev3 (d0 : Dev nD) : Nat :=
  let c0_i32_42 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_41 : BitVec 32 := 16#32
  let v65 : BitVec 32 := Scalar.muli v2 c16_i32_41
  let v66 : BitVec 32 := Scalar.addi c0_i32_42 v65
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_43 : BitVec 32 := 4#32
  let v67 : BitVec 32 := Scalar.muli v5 c4_i32_43
  let v68 : BitVec 32 := Scalar.addi v66 v67
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_44 : BitVec 32 := 1#32
  let v69 : BitVec 32 := Scalar.muli v30 c1_i32_44
  let v70 : BitVec 32 := Scalar.addi v68 v69
  v70.toNat
def k0_dev4 (d0 : Dev nD) : Nat :=
  let c0_i32_72 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_71 : BitVec 32 := 16#32
  let v104 : BitVec 32 := Scalar.muli v2 c16_i32_71
  let v105 : BitVec 32 := Scalar.addi c0_i32_72 v104
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_73 : BitVec 32 := 4#32
  let v106 : BitVec 32 := Scalar.muli v5 c4_i32_73
  let v107 : BitVec 32 := Scalar.addi v105 v106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_74 : BitVec 32 := 1#32
  let v108 : BitVec 32 := Scalar.muli v30 c1_i32_74
  let v109 : BitVec 32 := Scalar.addi v107 v108
  v109.toNat
def k0_dev5 (d0 : Dev nD) : Nat :=
  let c0_i32_102 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_101 : BitVec 32 := 16#32
  let v143 : BitVec 32 := Scalar.muli v2 c16_i32_101
  let v144 : BitVec 32 := Scalar.addi c0_i32_102 v143
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_103 : BitVec 32 := 4#32
  let v145 : BitVec 32 := Scalar.muli v5 c4_i32_103
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_104 : BitVec 32 := 1#32
  let v147 : BitVec 32 := Scalar.muli v30 c1_i32_104
  let v148 : BitVec 32 := Scalar.addi v146 v147
  v148.toNat
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S256x512 : Shape := ⟨2, ![256, 512]⟩
abbrev S512x16384 : Shape := ⟨2, ![512, 16384]⟩
abbrev S256x16384 : Shape := ⟨2, ![256, 16384]⟩
abbrev S_ : Shape := ⟨0, ![]⟩
abbrev S256 : Shape := ⟨1, ![256]⟩
abbrev S256x1 : Shape := ⟨2, ![256, 1]⟩

abbrev nBuf : Space → Nat
  | .hbm => 14
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x16384, .f32⟩
  | .hbm, ⟨2, _⟩ => ⟨S256x16384, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S256x16384, .f32⟩
  | .hbm, ⟨7, _⟩ => ⟨S256x16384, .f32⟩
  | .hbm, ⟨8, _⟩ => ⟨S256x16384, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S256x16384, .f32⟩
  | .hbm, ⟨13, _⟩ => ⟨S256x16384, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.SameText.lean ====
/-
The kernel's program is written twice, once to be read on bit patterns and once on ideal values.
Nothing was rewritten between the two, so that what they run is the same, whatever the float values.
-/
module

public import proofs.«01_k».proof.Proof.Gen.Kernel
public import proofs.«01_k».proof.Proof.Gen.KernelIdeal

@[expose] public section

noncomputable section

namespace Cert.RingSoftmax

open Idealize.ShloMosaic

variable {F : FTy → Type} [FloatOps F]

/-- Both run the same body for the kernel's one call; -/
theorem calls_eq : Cert.Kernel.defs₀ (F := F) = Cert.KernelIdeal.defs₀ (F := F) := by
  refine congrArg Defs.onTc (funext fun l => funext fun x => ?_)
  match l, x with
  | ⟨0, _⟩, _ => rfl

/-- and so the same program for everything that is called. -/
theorem table_eq : Cert.Kernel.defs (F := F) = Cert.KernelIdeal.defs (F := F) :=
  congrArg (Pipeline.defs (Cert.KernelIdeal.pcfgs (F := F))) calls_eq

end Cert.RingSoftmax

end
-- ==== Proof.Ring.lean ====
/-
The ring of four devices along the mesh's last axis, and the semaphores its kernel uses.

Device `c` of the 32 stands at place `c % 4` of the row `c / 4`; the kernel talks only to the two
neighbours in its row, cyclically. This file names the neighbours, the device at a given place of a
row, and shows that the device numbers the program computes are those.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingSoftmax

open Cert.KernelIdeal Cert.KernelIdeal.Gen
open Idealize.ShloMosaic Idealize.ShloMosaic.TcCoe
open Idealize.SL Idealize.SL.Sem

/-! ## Places in a row -/

set_option backward.proofsInPublic true in
/-- The place of device `c` in its row. -/
def place (c : Dev nD) : Fin 4 := ⟨c.val % 4, Nat.mod_lt _ (by decide)⟩

set_option backward.proofsInPublic true in
/-- The device at place `k` of the row of `c`. -/
def peer (c : Dev nD) (k : Fin 4) : Dev nD :=
  ⟨c.val / 4 * 4 + k.val, by have h : c.val < 32 := c.isLt; have h' := k.isLt; show _ < 32; omega⟩

/-- The right neighbour of `c` in its row. -/
def nxt (c : Dev nD) : Dev nD := peer c (place c + 1)
/-- The left neighbour of `c` in its row. -/
def prv (c : Dev nD) : Dev nD := peer c (place c + 3)

/-- Left of the right neighbour is the device itself; -/
theorem prv_nxt (c : Dev nD) : prv (nxt c) = c := by revert c; decide +kernel
/-- and right of the left neighbour. -/
theorem nxt_prv (c : Dev nD) : nxt (prv c) = c := by revert c; decide +kernel
/-- The right neighbour stands one place further on, cyclically. -/
theorem place_nxt (c : Dev nD) : place (nxt c) = place c + 1 := by revert c; decide +kernel
/-- Two neighbours have the same row. -/
theorem peer_nxt (c : Dev nD) (k : Fin 4) : peer (nxt c) k = peer c k := by revert c k; decide +kernel
/-- The device at the place of `c`, in the row of `c`, is `c`. -/
theorem peer_place (c : Dev nD) : peer c (place c) = c := by revert c; decide +kernel
/-- The device at place `k` stands at place `k`. -/
theorem place_peer (c : Dev nD) (k : Fin 4) : place (peer c k) = k := by revert c k; decide +kernel

/-- Going one to the right, as a rearrangement of all the devices. -/
def turn : Dev nD ≃ Dev nD := ⟨nxt, prv, prv_nxt, nxt_prv⟩

/-! ## The device numbers the program computes -/

/-- The first barrier signal goes to the left neighbour; -/
theorem dev1_eq (c : Dev nD) : (⟨k0_dev1 c, k0_dev1_lt c⟩ : Dev nD) = prv c := by revert c; decide +kernel
/-- the second to the right neighbour, -/
theorem dev2_eq (c : Dev nD) : (⟨k0_dev2 c, k0_dev2_lt c⟩ : Dev nD) = nxt c := by revert c; decide +kernel
/-- where the copy of step 0 goes too, -/
theorem dev3_eq (c : Dev nD) : (⟨k0_dev3 c, k0_dev3_lt c⟩ : Dev nD) = nxt c := by revert c; decide +kernel
/-- that of step 1, -/
theorem dev4_eq (c : Dev nD) : (⟨k0_dev4 c, k0_dev4_lt c⟩ : Dev nD) = nxt c := by revert c; decide +kernel
/-- and that of step 2. -/
theorem dev5_eq (c : Dev nD) : (⟨k0_dev5 c, k0_dev5_lt c⟩ : Dev nD) = nxt c := by revert c; decide +kernel

/-! ## The semaphores -/

/-- The barrier semaphore. -/
abbrev barS : Sem sig := (SemArray.scalar (sig.barrier 0 rfl) : Sems sig S_).sem

set_option backward.proofsInPublic true in
/-- The semaphore that counts step `h`'s departure, on the device that sends. -/
abbrev sendS (h : Fin 3) : DmaSem sig := (⟨3 + h.val, by omega⟩ : Fin 9)
set_option backward.proofsInPublic true in
/-- The semaphore that counts step `h`'s arrival, on the device that receives. -/
abbrev recvS (h : Fin 3) : DmaSem sig := (⟨6 + h.val, by omega⟩ : Fin 9)

/-- The barrier counter of device `c`. -/
abbrev barCell (c : Dev nD) : GSem nD τ sig := ((c : Thread nD τ), .reg barS)
/-- Device `c`'s counter of step `h`'s departure. -/
abbrev sendCell (c : Dev nD) (h : Fin 3) : GSem nD τ sig := ((c : Thread nD τ), .dma (sendS h))
/-- Device `c`'s counter of step `h`'s arrival. -/
abbrev recvCell (c : Dev nD) (h : Fin 3) : GSem nD τ sig := ((c : Thread nD τ), .dma (recvS h))

/-- The program's name of the semaphore of step 0's departure. -/
theorem send_name0 : ((cc0_scratch0.slice (Rect.unit (s := S3) ![0] S1.size inb_S3_S1_0)).squeeze S_ squeezes_S1_S_).sem = sendS 0 := by decide +kernel
/-- The same at step 1, -/
theorem send_name1 : ((cc0_scratch0.slice (Rect.unit (s := S3) ![1] S1.size inb_S3_S1_1)).squeeze S_ squeezes_S1_S_).sem = sendS 1 := by decide +kernel
/-- and at step 2. -/
theorem send_name2 : ((cc0_scratch0.slice (Rect.unit (s := S3) ![2] S1.size inb_S3_S1_2)).squeeze S_ squeezes_S1_S_).sem = sendS 2 := by decide +kernel
/-- The semaphore of step 0's arrival by the program's name, -/
theorem recv_name0 : ((cc0_scratch1.slice (Rect.unit (s := S3) ![0] S1.size inb_S3_S1_0)).squeeze S_ squeezes_S1_S_).sem = recvS 0 := by decide +kernel
/-- of step 1's, -/
theorem recv_name1 : ((cc0_scratch1.slice (Rect.unit (s := S3) ![1] S1.size inb_S3_S1_1)).squeeze S_ squeezes_S1_S_).sem = recvS 1 := by decide +kernel
/-- and of step 2's. -/
theorem recv_name2 : ((cc0_scratch1.slice (Rect.unit (s := S3) ![2] S1.size inb_S3_S1_2)).squeeze S_ squeezes_S1_S_).sem = recvS 2 := by decide +kernel

end Cert.RingSoftmax

end
-- ==== Proof.Chunks.lean ====
/-
The result's buffer in four column chunks, and what the chunks hold.

Each device's result buffer is 256 × 16384; the kernel treats it as four chunks of 4096 columns,
chunk `k` being the product of the device at place `k` of the row. This file says which elements a
chunk has, that the four make the buffer, and states the buffer's contents once the ring is done
(`full`): the same on all devices of a row.
-/
module

public import proofs.«01_k».proof.Proof.Ring
public import Idealize.ShloMosaic.Lib.Pointwise

@[expose] public section

noncomputable section

namespace Cert.RingSoftmax

open Cert.KernelIdeal Cert.KernelIdeal.Gen
open Idealize.ShloMosaic Idealize.ShloMosaic.TcCoe
open Idealize.SL Idealize.SL.Sem

variable {F : FTy → Type} [FloatOps F]

/-- The whole staging buffer of `x`, -/
abbrev xM : Memref sig .tc .vmem S256x512 .f32 := Memref.whole cc0_stg0_0
/-- of the device's block of `W`, -/
abbrev wM : Memref sig .tc .vmem S512x4096 .f32 := Memref.whole cc0_stg1_0
/-- and of the result. -/
abbrev oM : Memref sig .tc .vmem S256x16384 .f32 := Memref.whole cc0_stg2_0

/-! ## The chunks -/

/-- A chunk's columns lie inside the buffer. -/
theorem col_inb (k : Fin 4) : ∀ a, (![0, 4096 * k.val] : Fin 2 → ℕ) a + S256x4096.size a ≤ S256x16384.size a := by
  revert k; decide

/-- The columns of chunk `k`. -/
abbrev colRect (k : Fin 4) : Rect S256x16384 := Rect.unit (s := S256x16384) ![0, 4096 * k.val] S256x4096.size (col_inb k)

/-- Chunk `k` of the result's buffer. -/
abbrev cM (k : Fin 4) : Memref sig .tc .vmem S256x4096 .f32 := oM.slice (colRect k) (fun _ => rfl)

/-- The elements of chunk `k`. -/
def chunk (k : Fin 4) : Finset S256x16384.Idx := (cM k).view.set

set_option backward.proofsInPublic true in
/-- The chunk an element lies in. -/
def chunkOf (i : S256x16384.Idx) : Fin 4 := ⟨(i 1).val / 4096, by have h : (i 1).val < 16384 := (i 1).isLt; omega⟩
set_option backward.proofsInPublic true in
/-- Where in its chunk an element lies. -/
def within (i : S256x16384.Idx) : S256x4096.Idx := ix2 (i 0) ⟨(i 1).val % 4096, Nat.mod_lt _ (by decide)⟩

/-- An element of a chunk keeps its row in the buffer; -/
theorem emb_0 (k : Fin 4) (j : S256x4096.Idx) : ((cM k).view.emb j 0).val = (j 0).val := by
  show 0 + 1 * (j 0).val = _
  omega
/-- its column is shifted by the columns of the chunks before. -/
theorem emb_1 (k : Fin 4) (j : S256x4096.Idx) : ((cM k).view.emb j 1).val = 4096 * k.val + (j 1).val := by
  show 4096 * k.val + 1 * (j 1).val = _
  omega

/-- An element of chunk `k` lies in chunk `k`, -/
theorem chunkOf_emb (k : Fin 4) (j : S256x4096.Idx) : chunkOf ((cM k).view.emb j) = k := by
  apply Fin.ext
  show ((cM k).view.emb j 1).val / 4096 = k.val
  rw [emb_1]
  have h : (j 1).val < 4096 := (j 1).isLt
  omega

/-- where it is the element that it was; -/
theorem within_emb (k : Fin 4) (j : S256x4096.Idx) : within ((cM k).view.emb j) = j := by
  funext a
  apply Fin.ext
  fin_cases a
  · exact emb_0 k j
  · show ((cM k).view.emb j 1).val % 4096 = (j 1).val
    rw [emb_1]
    have h : (j 1).val < 4096 := (j 1).isLt
    omega

/-- and any element is the one found in its chunk where it lies in it. -/
theorem emb_within (i : S256x16384.Idx) : (cM (chunkOf i)).view.emb (within i) = i := by
  funext a
  apply Fin.ext
  fin_cases a
  · exact emb_0 _ _
  · refine (emb_1 _ _).trans ?_
    show 4096 * ((i 1).val / 4096) + (i 1).val % 4096 = (i 1).val
    omega

/-- An element is in the chunk its column says. -/
theorem mem_chunk {k : Fin 4} {i : S256x16384.Idx} : i ∈ chunk k ↔ chunkOf i = k := by
  constructor
  · intro h
    obtain ⟨j, -, rfl⟩ := Finset.mem_map.mp h
    exact chunkOf_emb k j
  · rintro rfl
    rw [← emb_within i, chunkOf_emb]
    exact View.emb_mem_set _ _

/-- Different chunks share no element. -/
theorem chunk_disjoint {k k' : Fin 4} (h : k ≠ k') : Disjoint (chunk k) (chunk k') :=
  Finset.disjoint_left.mpr fun i hi hi' => h ((mem_chunk.mp hi).symm.trans (mem_chunk.mp hi'))

/-- The four chunks make the buffer. -/
theorem chunk_cover : Finset.univ.biUnion chunk = (Finset.univ : Finset S256x16384.Idx) :=
  Finset.eq_univ_iff_forall.mpr fun i => Finset.mem_biUnion.mpr ⟨chunkOf i, Finset.mem_univ _, mem_chunk.mpr rfl⟩

/-! ## The program's offsets -/

/-- The chunk device `c` passes on at step `h`. -/
def passed (c : Dev nD) (h : Fin 3) : Fin 4 := place c - h.castSucc

/-- The offset the program computes for its step `h` is that of the chunk it passes on then. -/
theorem off2_eq (c : Dev nD) (h : Fin 3) : k0_off2 c (BitVec.ofNat 32 h.val) = ![0, 4096 * (passed c h).val] := by
  revert c h; decide +kernel

/-- A slice at the offset of chunk `k` is chunk `k`. -/
theorem slice_eq {off : Fin 2 → ℕ} (k : Fin 4) (h : off = ![0, 4096 * k.val]) (hi : ∀ a, off a + S256x4096.size a ≤ S256x16384.size a) :
    (oM.slice (Rect.unit (s := S256x16384) off S256x4096.size hi) (fun _ => rfl) : Memref sig .tc .vmem S256x4096 .f32) = cM k := by
  subst h; rfl

/-! ## Contents -/

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-- What device `c` is given of `x`: the whole. -/
def xOf (c : Dev nD) : (cc0_stg0_0 : Ref sig .tc).ty.Contents (Elt F) :=
  (win0_0.blk (0 : Fin 1)).view.read (Elt F) ((s₀ m ρ).mem ((c : Thread nD τ).loc main_arg0))
/-- What device `c` is given of `W`: its block. -/
def wOf (c : Dev nD) : (cc0_stg1_0 : Ref sig .tc).ty.Contents (Elt F) :=
  (win0_1.blk (0 : Fin 1)).view.read (Elt F) ((s₀ m ρ).mem ((c : Thread nD τ).loc main_arg1))

/-- The product device `c` computes. -/
def prodOf (c : Dev nD) : S256x4096.Idx → Elt F .f32 := k0_pay4 (k0_pay2 (xOf m ρ c)) (k0_pay3 (wOf m ρ c))

/-- The result's buffer once the ring is done: in chunk `k` the product of the device at place `k` of the row of `c`. -/
def full (c : Dev nD) : S256x16384.Idx → Elt F .f32 := fun i => prodOf m ρ (peer c (chunkOf i)) (within i)

/-- The devices of a row agree on it. -/
theorem full_nxt (c : Dev nD) : full m ρ (nxt c) = full m ρ c := by
  funext i; unfold full; rw [peer_nxt]

/-- A device that stores its product into its own chunk makes that chunk what it is to be. -/
theorem store_full (c : Dev nD) (f : S256x16384.Idx → Elt F .f32) :
    ∀ i ∈ chunk (place c), (cM (place c)).view.write (Elt F) f (prodOf m ρ c) Finset.univ i = full m ρ c i := by
  intro i hi
  obtain ⟨j, -, rfl⟩ := Finset.mem_map.mp hi
  refine (View.write_emb_of_mem (Val := Elt F) _ _ (Finset.mem_univ j)).trans ?_
  show prodOf m ρ c j = prodOf m ρ (peer c (chunkOf _)) (within _)
  rw [chunkOf_emb, within_emb, peer_place]

/-- A chunk copied from one buffer to the other is, there, what it was here. -/
theorem copy_chunk (k : Fin 4) (fd fs : S256x16384.Idx → Elt F .f32) :
    ∀ i ∈ chunk k, (cM k).view.write (Elt F) fd ((cM k).view.read (Elt F) fs) Finset.univ i = fs i := by
  intro i hi
  obtain ⟨j, -, rfl⟩ := Finset.mem_map.mp hi
  exact View.write_emb_of_mem (Val := Elt F) _ _ (Finset.mem_univ j)

end Cert.RingSoftmax

end
-- ==== Proof.Schedule.lean ====
/-
Who hands what to whom, and when: the protocol of the ring.

Every device has seven counters: its barrier, and for each of the three steps one for departures and
one for arrivals. Each runs through a single round.

* The barrier expects two units. The left neighbour's brings nothing. The right neighbour's brings the
  right neighbour's three landing chunks, at whatever they hold: the leave to write them.
* The departure counter of step `h` expects one chunk's worth, and gives back the chunk that was read.
* The arrival counter of step `h` expects one chunk's worth, and gives the chunk that landed, holding
  what the finished buffer is to hold there.

A device that waits owes only counters of a higher level: barriers stand at 1, the arrivals of step
`h` at `2 + h`, everything else at 0. So nobody waits in a circle.
-/
module

public import proofs.«01_k».proof.Proof.Chunks

@[expose] public section

noncomputable section

namespace Cert.RingSoftmax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the ring's rounds, with two duty names; -/
abbrev UB : Type := URounds (GSem nD τ sig) Bool
/-- and that together with the pipeline library's. -/
abbrev UU : Type := UR sig nD τ × UB

local notation "𝕄" => MT nD τ sig Unit (Elt F) ℕ UU ℕ

/-- The pipeline library's part of the ghost state, -/
abbrev EP : Emb (UR sig nD τ) (MT nD τ sig Unit (Elt F) ℕ UU ℕ) := embL
/-- and the rounds' part. -/
abbrev ER : Emb UB (MT nD τ sig Unit (Elt F) ℕ UU ℕ) := embR

variable (m : (ℓ : Loc nD τ sig) → Buf (Elt F) ℓ) (ρ : Dev nD → PrngReg)

/-! ## Holding chunks -/

/-- Device `c` holds chunk `k` of its result buffer, at the contents `f`. -/
def holds (c : Dev nD) (k : Fin 4) (f : S256x16384.Idx → Elt F .f32) : sProp 𝕄 :=
  (cM k).view.loc (c : Thread nD τ) ↦[(cM k).view.set]{fullShare} (f : Buf (Elt F) ((cM k).view.loc (c : Thread nD τ)))

/-- Holding a chunk can be put into an invariant. -/
instance holds_storable (c : Dev nD) (k : Fin 4) (f) : BI.Storable (upEmb : UEmb _ 𝕄) (holds (F := F) c k f) := by unfold holds; infer_instance

/-- Only what the contents are on the chunk counts. -/
theorem holds_congr (c : Dev nD) (k : Fin 4) {f g : S256x16384.Idx → Elt F .f32} (h : ∀ i ∈ chunk k, f i = g i) :
    (holds c k f : sProp 𝕄) = holds c k g :=
  pointsTo_congr h

/-- The chunk that reaches device `c` at step `h`: what its left neighbour passes on then. -/
def arrived (c : Dev nD) (h : Fin 3) : Fin 4 := passed (prv c) h

/-- What reaches the right neighbour at step `h` is what `c` passes on then. -/
theorem arrived_nxt (c : Dev nD) (h : Fin 3) : arrived (nxt c) h = passed c h := by unfold arrived; rw [prv_nxt]
/-- A device first passes on its own chunk, -/
theorem passed_zero (c : Dev nD) : passed c 0 = place c := by revert c; decide +kernel
/-- then the chunk that reached it first, -/
theorem passed_one (c : Dev nD) : passed c 1 = arrived c 0 := by revert c; decide +kernel
/-- then the one that reached it second. -/
theorem passed_two (c : Dev nD) : passed c 2 = arrived c 1 := by revert c; decide +kernel

/-- A device's own chunk and the three that reach it are the four chunks. -/
theorem chunks_of (c : Dev nD) (Φ : Fin 4 → sProp 𝕄) :
    bigSep Finset.univ Φ = iprop(Φ (place c) ∗ Φ (arrived c 0) ∗ Φ (arrived c 1) ∗ Φ (arrived c 2)) :=
  bigSep_univ_eq_bigSepL [place c, arrived c 0, arrived c 1, arrived c 2] (by revert c; decide +kernel) (by revert c; decide +kernel) Φ

/-- The whole buffer is the four chunks. -/
theorem whole_eq (c : Dev nD) (f : S256x16384.Idx → Elt F .f32) :
    (((c : Thread nD τ).loc cc0_stg2_0) ↦{fullShare} (f : Buf (Elt F) ((c : Thread nD τ).loc cc0_stg2_0)) : sProp 𝕄)
      = iprop(holds c (place c) f ∗ holds c (arrived c 0) f ∗ holds c (arrived c 1) f ∗ holds c (arrived c 2) f) := by
  rw [← chunks_of c (fun k => holds c k f)]
  refine Eq.trans ?_ (pointsTo_biUnion (ℓ := (c : Thread nD τ).loc cc0_stg2_0) Finset.univ chunk fun k _ k' _ h => chunk_disjoint h)
  rw [chunk_cover]

/-! ## The schedule -/

/-- The units one chunk counts for. -/
abbrev N : ℕ := (cM 0).view.dmaCredit
/-- A chunk counts for something. -/
theorem N_pos : 0 < N := View.dmaCredit_pos _ (by decide)

/-- Some contents of chunk `k` of device `c`. -/
def landing (c : Dev nD) (k : Fin 4) : sProp 𝕄 := iprop(∃ f, holds c k f)

/-- A landing chunk can be put into an invariant. -/
instance landing_storable (c : Dev nD) (k : Fin 4) : BI.Storable (upEmb : UEmb _ 𝕄) (landing (F := F) c k) := by unfold landing; infer_instance

/-- What the right neighbour's unit brings to the barrier of `c`. -/
def barPay (c : Dev nD) : sProp 𝕄 :=
  iprop(landing (nxt c) (passed c 0) ∗ landing (nxt c) (passed c 1) ∗ landing (nxt c) (passed c 2))
/-- What the departure of step `h` gives back: the chunk that was read, as it was. -/
def sendPay (c : Dev nD) (h : Fin 3) : sProp 𝕄 := holds c (passed c h) (full m ρ c)
/-- What the arrival of step `h` gives: the chunk that came, finished. -/
def recvPay (c : Dev nD) (h : Fin 3) : sProp 𝕄 := holds c (arrived c h) (full m ρ c)

set_option backward.proofsInPublic true in
/-- One round: the barrier's two duties of a unit (`false` the left neighbour's, `true` the right's), each other
    counter's one of a chunk's worth. -/
def rd : Rounds.Schedule (GSem nD τ sig) Bool 𝕄 where
  duties g r := if r = 0 ∧ g.1.2 = .tc then (match g.2 with | .reg _ => Finset.univ | .dma q => if 3 ≤ q.val then {false} else ∅) else ∅
  unitless _ := False
  amount g _ _ := match g.2 with | .reg _ => 1 | .dma _ => N
  payload g _ d := match g.2 with
    | .reg _ => if d then barPay g.1.1 else iprop(emp)
    | .dma q => if 6 ≤ q.val then recvPay m ρ g.1.1 ⟨q.val - 6, by have : q.val < 9 := q.isLt; omega⟩
      else if h : 3 ≤ q.val ∧ q.val < 6 then sendPay m ρ g.1.1 ⟨q.val - 3, by omega⟩ else iprop(emp)
  amount_pos g _ _ _ := by
    rcases g with ⟨t, s | q⟩
    · exact Nat.one_pos
    · exact N_pos

/-- All that the schedule hands over can be put into an invariant. -/
instance rd_storable (g : GSem nD τ sig) (r : ℕ) (d : Bool) : BI.Storable (upEmb : UEmb _ 𝕄) ((rd (F := F) m ρ).payload g r d) := by
  rcases g with ⟨t, s | q⟩
  · show BI.Storable upEmb (if d then barPay t.1 else iprop(emp))
    unfold barPay
    split <;> infer_instance
  · dsimp only [rd]
    unfold recvPay sendPay
    (repeat' split) <;> infer_instance

section Read
variable (c : Dev nD) (h : Fin 3) (d : Bool)

/-- The barrier has two duties in its round; -/
theorem duties_bar : (rd (F := F) m ρ).duties (barCell c) 0 = Finset.univ := by
  dsimp only [rd]; exact if_pos ⟨rfl, rfl⟩
/-- a departure has one, -/
theorem duties_send : (rd (F := F) m ρ).duties (sendCell c h) 0 = {false} := by
  dsimp only [rd]
  rw [if_pos ⟨rfl, rfl⟩]
  exact if_pos (show 3 ≤ 3 + h.val by omega)
/-- and so has an arrival; -/
theorem duties_recv : (rd (F := F) m ρ).duties (recvCell c h) 0 = {false} := by
  dsimp only [rd]
  rw [if_pos ⟨rfl, rfl⟩]
  exact if_pos (show 3 ≤ 6 + h.val by omega)
/-- after the first round there are none. -/
theorem duties_later (g : GSem nD τ sig) : ∀ r, 1 ≤ r → (rd (F := F) m ρ).duties g r = ∅ :=
  fun r hr => if_neg fun h => by omega

/-- A duty at the barrier is worth one unit, -/
theorem amount_bar : (rd (F := F) m ρ).amount (barCell c) 0 d = 1 := rfl
/-- that of a departure a chunk's worth, -/
theorem amount_send : (rd (F := F) m ρ).amount (sendCell c h) 0 d = N := rfl
/-- and that of an arrival a chunk's worth. -/
theorem amount_recv : (rd (F := F) m ρ).amount (recvCell c h) 0 d = N := rfl

/-- The barrier expects two units in all, -/
theorem expect_bar : (rd (F := F) m ρ).expect (barCell c) 0 = 2 := by
  unfold Schedule.expect Schedule.amountOf
  rw [duties_bar]; rfl
/-- a departure a chunk's worth, -/
theorem expect_send : (rd (F := F) m ρ).expect (sendCell c h) 0 = N := by
  unfold Schedule.expect Schedule.amountOf
  rw [duties_send, Finset.sum_singleton]; rfl
/-- and an arrival a chunk's worth. -/
theorem expect_recv : (rd (F := F) m ρ).expect (recvCell c h) 0 = N := by
  unfold Schedule.expect Schedule.amountOf
  rw [duties_recv, Finset.sum_singleton]; rfl

/-- The left neighbour's unit brings nothing; -/
theorem payload_bar_false : (rd (F := F) m ρ).payload (barCell c) 0 false = iprop(emp) := rfl
/-- the right neighbour's brings its three landing chunks; -/
theorem payload_bar_true : (rd (F := F) m ρ).payload (barCell c) 0 true = barPay c := rfl
/-- a departure gives the chunk that was read, -/
theorem payload_send : (rd (F := F) m ρ).payload (sendCell c h) 0 d = sendPay m ρ c h := by
  have h' := h.isLt
  refine (if_neg (show ¬ 6 ≤ 3 + h.val by omega)).trans ((dif_pos (show 3 ≤ 3 + h.val ∧ 3 + h.val < 6 by omega)).trans ?_)
  exact congrArg (sendPay m ρ c) (Fin.ext (show 3 + h.val - 3 = h.val by omega))
/-- an arrival the chunk that came. -/
theorem payload_recv : (rd (F := F) m ρ).payload (recvCell c h) 0 d = recvPay m ρ c h := by
  refine (if_pos (show 6 ≤ 6 + h.val by omega)).trans ?_
  exact congrArg (recvPay m ρ c) (Fin.ext (show 6 + h.val - 6 = h.val by omega))

/-- All that the round of the barrier gives; -/
theorem rest_bar : bigSep ((rd (F := F) m ρ).duties (barCell c) 0 \ ∅) (fun d => (rd (F := F) m ρ).payload (barCell c) 0 d)
    = iprop(emp ∗ barPay c) := by
  rw [Finset.sdiff_empty, duties_bar]
  exact bigSep_univ_eq_bigSepL [false, true] (by decide) (by decide) _
/-- of a departure's counter; -/
theorem rest_send : bigSep ((rd (F := F) m ρ).duties (sendCell c h) 0 \ ∅) (fun d => (rd (F := F) m ρ).payload (sendCell c h) 0 d)
    = sendPay m ρ c h := by
  rw [Finset.sdiff_empty, duties_send, bigSep_singleton, payload_send]
/-- and of an arrival's. -/
theorem rest_recv : bigSep ((rd (F := F) m ρ).duties (recvCell c h) 0 \ ∅) (fun d => (rd (F := F) m ρ).payload (recvCell c h) 0 d)
    = recvPay m ρ c h := by
  rw [Finset.sdiff_empty, duties_recv, bigSep_singleton, payload_recv]

end Read

/-! ## What a device owes, and the levels -/

/-- The arrivals at the right neighbour that device `c` still owes when it has `n` steps to go. -/
def owesRecv (c : Dev nD) : ℕ → CellTallies nD τ sig Unit
  | 0 => 0
  | 1 => tallyAt (recvCell (nxt c) 2) () N
  | 2 => tallyAt (recvCell (nxt c) 2) () N + tallyAt (recvCell (nxt c) 1) () N
  | _ => tallyAt (recvCell (nxt c) 2) () N + tallyAt (recvCell (nxt c) 1) () N + tallyAt (recvCell (nxt c) 0) () N

/-- Before its second signal device `c` owes its right neighbour's barrier too, -/
def O₁ (c : Dev nD) : CellTallies nD τ sig Unit := owesRecv c 3 + tallyAt (barCell (nxt c)) () 1
/-- and at launch also its left neighbour's. -/
def O₀ (c : Dev nD) : CellTallies nD τ sig Unit := O₁ c + tallyAt (barCell (prv c)) () 1

/-- Every counter of a core the kernel runs on has one level; -/
def L (g : GSem nD τ sig) : Finset Unit := if g.1.2 = .tc then {()} else ∅
/-- the barrier stands at 1, the arrivals of step `h` at `2 + h`, all else at 0. -/
def lv (g : GSem nD τ sig) (_ : Unit) : ℕ := match g.2 with
  | .reg _ => 1
  | .dma q => if 6 ≤ q.val then q.val - 4 else 0

/-- No other core has levels. -/
theorem L_of_ne (g : GSem nD τ sig) (h : g.1.2 ≠ .tc) : L g = ∅ := if_neg h
/-- Every counter of a device's core has its level. -/
theorem mem_L (c : Dev nD) (sm : SemLoc sig) (u : Unit) : u ∈ L ((c : Thread nD τ), sm) := by
  unfold L; rw [if_pos rfl]; exact Finset.mem_singleton_self _
/-- The level of a barrier; -/
theorem lv_bar (c : Dev nD) (u : Unit) : lv (barCell c) u = 1 := rfl
/-- and that of an arrival. -/
theorem lv_recv (c : Dev nD) (h : Fin 3) (u : Unit) : lv (recvCell c h) u = 2 + h.val := by
  refine (if_pos (show 6 ≤ 6 + h.val by omega)).trans ?_
  show 6 + h.val - 4 = _
  omega

/-- A sum that owes something owes it in one of its summands. -/
theorem owed_add {A B : CellTallies nD τ sig Unit} {g : GSem nD τ sig} {u : Unit} (h : 0 < (A + B) g u) : 0 < A g u ∨ 0 < B g u := by
  rw [Pi.add_apply, Finsupp.add_apply] at h; omega

/-- With `n` steps to go only arrivals of those steps are owed. -/
theorem owesRecv_pos {c : Dev nD} {n : ℕ} {g : GSem nD τ sig} {u : Unit} (hg : 0 < owesRecv c n g u) :
    ∃ h : Fin 3, g = recvCell (nxt c) h ∧ 3 ≤ n + h.val := by
  match n with
  | 0 => exact absurd hg (Nat.lt_irrefl 0)
  | 1 => exact ⟨2, (Pipeline.tallyAt_pos hg).1, by decide⟩
  | 2 =>
    rcases owed_add hg with h | h
    · exact ⟨2, (Pipeline.tallyAt_pos h).1, by decide⟩
    · exact ⟨1, (Pipeline.tallyAt_pos h).1, by decide⟩
  | n + 3 =>
    rcases owed_add hg with h | h
    · rcases owed_add h with h | h
      · exact ⟨2, (Pipeline.tallyAt_pos h).1, by omega⟩
      · exact ⟨1, (Pipeline.tallyAt_pos h).1, by omega⟩
    · exact ⟨0, (Pipeline.tallyAt_pos h).1, by omega⟩

/-- At launch only arrivals at the right neighbour and the neighbours' barriers are owed. -/
theorem O₀_pos {c : Dev nD} {g : GSem nD τ sig} {u : Unit} (hg : 0 < O₀ c g u) :
    (∃ h : Fin 3, g = recvCell (nxt c) h) ∨ g = barCell (nxt c) ∨ g = barCell (prv c) := by
  rcases owed_add hg with h | h
  · rcases owed_add h with h | h
    · obtain ⟨h', hh, -⟩ := owesRecv_pos h
      exact .inl ⟨h', hh⟩
    · exact .inr (.inl ((Pipeline.tallyAt_pos h).1))
  · exact .inr (.inr ((Pipeline.tallyAt_pos h).1))

/-- A device may wait at a counter of level at most `b` while all it owes stands above `b`. -/
theorem mayWait_of (c : Dev nD) (sm : SemLoc sig) (O : CellTallies nD τ sig Unit) (b : ℕ)
    (hs : lv ((c : Thread nD τ), sm) () ≤ b) (hO : ∀ g u, 0 < O g u → ∃ (d : Dev nD) (s : SemLoc sig), g = ((d : Thread nD τ), s) ∧ b < lv g u) :
    (levAts L lv : sProp 𝕄) ⊢ MayWait (c : Thread nD τ) sm () O :=
  MayOwe.of_cut (L := L) (lev := lv) b (fun p hp => by rw [Finset.mem_singleton.mp hp]; exact mem_L _ _ _)
    (fun g u hg => by obtain ⟨d, s, rfl, -⟩ := hO g u hg; exact mem_L _ _ _)
    (fun p hp => by rw [Finset.mem_singleton.mp hp]; exact hs)
    (fun g u hg => by obtain ⟨d, s, -, hl⟩ := hO g u hg; exact hl)

/-- With `n` steps to go a device may wait at any counter of level below `5 - n`. -/
theorem mayWait_recv (c : Dev nD) (sm : SemLoc sig) (n b : ℕ) (hs : lv ((c : Thread nD τ), sm) () ≤ b) (hn : b + n < 5) :
    (levAts L lv : sProp 𝕄) ⊢ MayWait (c : Thread nD τ) sm () (owesRecv c n) :=
  mayWait_of c sm _ b hs fun g u hg => by
    obtain ⟨h, rfl, hh⟩ := owesRecv_pos hg
    exact ⟨_, _, rfl, by rw [lv_recv]; omega⟩

/-- A staging transfer may be waited for at the start and at the end. -/
theorem mayWait_stage (c : Dev nD) (q : DmaSem sig) (hq : ¬ 6 ≤ q.val) (O : CellTallies nD τ sig Unit) (hO : O = O₀ c ∨ O = 0) :
    (levAts L lv : sProp 𝕄) ⊢ MayWait (c : Thread nD τ) (.dma q) () O := by
  rcases hO with rfl | rfl
  · refine mayWait_of c _ _ 0 (le_of_eq (if_neg hq)) fun g u hg => ?_
    rcases O₀_pos hg with ⟨h, rfl⟩ | rfl | rfl
    · exact ⟨_, _, rfl, by rw [lv_recv]; omega⟩
    · exact ⟨_, _, rfl, by rw [lv_bar]; omega⟩
    · exact ⟨_, _, rfl, by rw [lv_bar]; omega⟩
  · rw [MayWait_zero]; iintro -; iempintro

end Cert.RingSoftmax

end
-- ==== Proof.Step.lean ====
/-
One step of the ring: a device passes a chunk on to its right neighbour, waits until the chunk has
left, and waits until the chunk its left neighbour passes on has come.
-/
module

public import proofs.«01_k».proof.Proof.Schedule

@[expose] public section

noncomputable section

namespace Cert.RingSoftmax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- No loop of the program needs a measure. -/
abbrev 𝒱₀ : Variants := Variants.none

/-! ## The counters, listed -/

/-- A counter of a device: the barrier, a departure, an arrival. -/
abbrev Site : Type := Unit ⊕ (Fin 3 ⊕ Fin 3)

/-- The counter of a device at a site. -/
abbrev siteCell (p : Dev nD × Site) : GSem nD τ sig := match p.2 with
  | .inl _ => barCell p.1
  | .inr (.inl h) => sendCell p.1 h
  | .inr (.inr h) => recvCell p.1 h

/-- Every counter's invariant is known, under the names `K`, and that its first round has begun. -/
def known (K : Dev nD × Site → ℕ) : sProp 𝕄 :=
  iprop((bigSep Finset.univ fun p : Dev nD × Site => cellInv ER (rd m ρ) (K p) (siteCell p))
    ∗ bigSep Finset.univ fun p : Dev nD × Site => reached ER (siteCell p) 0)

/-- What is known stays known. -/
instance known_persistent (K : Dev nD × Site → ℕ) : BI.Persistent (known m ρ K) := by unfold known; infer_instance

/-- From what is known, the invariant of any one counter, -/
theorem known_inv (K : Dev nD × Site → ℕ) (p : Dev nD × Site) : known m ρ K ⊢ cellInv ER (rd m ρ) (K p) (siteCell p) :=
  sep_elim_left.trans (bigSep_elim (Finset.mem_univ p))
/-- and that its first round has begun. -/
theorem known_reached (K : Dev nD × Site → ℕ) (p : Dev nD × Site) : known m ρ K ⊢ reached ER (siteCell p) 0 :=
  sep_elim_right.trans (bigSep_elim (Finset.mem_univ p))

/-! ## A step -/

/-- What device `c` needs of the ring's ghost state for step `h`: its places in the rounds of its two counters, and the
    duties it pays, of its own departure and of its right neighbour's arrival. -/
def stepGhost (c : Dev nD) (h : Fin 3) : sProp 𝕄 :=
  iprop(atPos ER (sendCell c h) 0 ∅ 0 ∗ atPos ER (recvCell c h) 0 ∅ 0
    ∗ dutyTok ER (sendCell c h) 0 false ∗ dutyTok ER (recvCell (nxt c) h) 0 false)

/-- A step pays one arrival off. -/
theorem owes_step (c : Dev nD) (h : Fin 3) : owesRecv c (3 - h.val) = owesRecv c (2 - h.val) + tallyAt (recvCell (nxt c) h) () N := by
  fin_cases h
  · rfl
  · rfl
  · exact (zero_add _).symm

variable (K : Dev nD × Site → ℕ)

/-- The transfer of step `h`, started: the chunk that is read and the chunk that is written are given up until the departure
    and the arrival. -/
theorem wp_send (c n : Dev nD) (h : Fin 3) (M : Memref sig .tc .vmem S256x4096 .f32) (s r : DmaSem sig)
    (hn : n = nxt c) (hM : M = cM (passed c h)) (hs : s = sendS h) (hr : r = recvS h)
    {hsc : (M : Memref sig (Dev.tc n : Thread nD τ).2.kind .vmem S256x4096 .f32).view.ref.isScScratch = false}
    {hsrc hdst : M.view.WordExact}
    {hsem : DmaTarget.Typed .vmem (.dma r) (.remote (Dev.tc n : Thread nD τ) (M : Memref sig .tc .vmem S256x4096 .f32) (.dma s) hsc)}
    {α : Type} {Q : α → sProp 𝕄} {k : PUnit → Prog (TpuEff nD τ sig (Elt F) Λ₀ .tc) α} (W : Waits sig Unit) :
    iprop(known m ρ K ∗ holds c (passed c h) (full m ρ c) ∗ landing (nxt c) (passed c h)
        ∗ owes (c : Thread nD τ) (owesRecv c (3 - h.val)) W
        ∗ dutyTok ER (sendCell c h) 0 false ∗ dutyTok ER (recvCell (nxt c) h) 0 false)
      ⊢ iprop(((cred (tallyAt (sendCell c h) () N) ∗ owes (c : Thread nD τ) (owesRecv c (2 - h.val)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M (.remote (Dev.tc n : Thread nD τ) M (.dma s) hsc) (.dma r) hsrc hdst hsem) k) Q) := by
  subst hn hM hs hr
  unfold landing
  iintro ⟨#HK, Hsrc, ⟨%fd, Hdst⟩, HO, HtS, HtV⟩
  ihave #HIS := (known_inv m ρ K (c, .inr (.inl h))) $$ HK
  ihave #HIV := (known_inv m ρ K (nxt c, .inr (.inr h))) $$ HK
  ihave #HRS := (known_reached m ρ K (c, .inr (.inl h))) $$ HK
  ihave #HRV := (known_reached m ρ K (nxt c, .inr (.inr h))) $$ HK
  have hland : (holds (nxt c) (passed c h) ((cM (passed c h)).view.write (Elt F) fd ((cM (passed c h)).view.read (Elt F) (full m ρ c)) Finset.univ) : sProp 𝕄)
      ⊢ (rd m ρ).payload (recvCell (nxt c) h) 0 false := by
    rw [payload_recv]; unfold recvPay; rw [arrived_nxt, full_nxt]
    exact Entails.of_eq (holds_congr (nxt c) (passed c h) (copy_chunk (passed c h) fd (full m ρ c)))
  unfold holds at hland
  have hleft : (holds c (passed c h) (full m ρ c) : sProp 𝕄) ⊢ (rd m ρ).payload (sendCell c h) 0 false := by
    rw [payload_send]; exact BI.Entails.refl _
  unfold holds at hleft
  unfold holds
  iapply (Rounds.wp_send_pointsTo 𝒱₀ ER (rd m ρ) (c : Thread nD τ) none (κ₁ := K (c, .inr (.inl h))) (κ₂ := K (nxt c, .inr (.inr h)))
    (c' := (nxt c : Thread nD τ)) (src := cM (passed c h)) (dst := cM (passed c h)) (r₁ := 0) (r₂ := 0) (d₁ := false) (d₂ := false) (fd := fd) (fs := full m ρ c) (q := fullShare)
    (by rw [duties_send]; exact Finset.mem_singleton_self _) (by rw [duties_recv]; exact Finset.mem_singleton_self _)
    () () N rfl (amount_send m ρ c h false) (amount_recv m ρ (nxt c) h false) (owesRecv c (2 - h.val)) (owes_step c h) (W := W)
    hleft hland)
  isplitr; · iexact HIS
  isplitr; · iexact HIV
  isplitl [Hsrc]; · iexact Hsrc
  isplitl [Hdst]; · iexact Hdst
  isplitl [HO]; · iexact HO
  isplitl [HtS]; · iexact HtS
  isplitr; · iexact HRS
  isplitl [HtV]; · iexact HtV
  iexact HRV

/-- What step `h` leaves device `c`: the chunk it passed on and the chunk that came, both finished, and its two counters,
    back at zero. -/
def stepDone (c : Dev nD) (h : Fin 3) : sProp 𝕄 :=
  iprop(holds c (passed c h) (full m ρ c) ∗ holds c (arrived c h) (full m ρ c) ∗ semVal (sendCell c h) 0 ∗ semVal (recvCell c h) 0)

/-- Step `h` of device `c`, from its transfer to its second wait. -/
theorem wp_step (c n : Dev nD) (h : Fin 3) (M : Memref sig .tc .vmem S256x4096 .f32) (s r : DmaSem sig)
    (hn : n = nxt c) (hM : M = cM (passed c h)) (hs : s = sendS h) (hr : r = recvS h)
    {hsc : (M : Memref sig (Dev.tc n : Thread nD τ).2.kind .vmem S256x4096 .f32).view.ref.isScScratch = false}
    {w₁ w₂ w₃ w₄ w₅ w₆ : M.view.WordExact}
    {hsem : DmaTarget.Typed .vmem (.dma r) (.remote (Dev.tc n : Thread nD τ) (M : Memref sig .tc .vmem S256x4096 .f32) (.dma s) hsc)}
    {α : Type} {Q : α → sProp 𝕄} {k : Prog (TpuEff nD τ sig (Elt F) Λ₀ .tc) α} :
    iprop(known m ρ K ∗ levAts L lv ∗ holds c (passed c h) (full m ρ c) ∗ landing (nxt c) (passed c h)
        ∗ (∃ W, owes (c : Thread nD τ) (owesRecv c (3 - h.val)) W) ∗ stepGhost c h ∗ cred (tallyAt (recvCell c h) () N))
      ⊢ iprop((stepDone m ρ c h -∗ (∃ W, owes (c : Thread nD τ) (owesRecv c (2 - h.val)) W)
            -∗ wp frame (wpE (defs₀ (F := F)) 𝒱₀ (c : Thread nD τ) none) Set.univ k Q)
          -∗ wp frame (wpE (defs₀ (F := F)) 𝒱₀ (c : Thread nD τ) none) Set.univ
              (.op (.enqueueDma M (.remote (Dev.tc n : Thread nD τ) M (.dma s) hsc) (.dma r) w₁ w₂ hsem) fun _ =>
                .op (.waitDma2 s M M w₃ w₄) fun _ => .op (.waitDma2 r M M w₅ w₆) fun _ => k) Q) := by
  unfold stepGhost
  iintro ⟨#HK, #Hlev, Hsrc, Hdst, ⟨%W, HO⟩, ⟨HatS, HatV, HtS, HtV⟩, HcV⟩ Hk
  iapply (wp_send m ρ K c n h M s r hn hM hs hr W) $$ [Hsrc Hdst HO HtS HtV]
  · isplitr; · iexact HK
    isplitl [Hsrc]; · iexact Hsrc
    isplitl [Hdst]; · iexact Hdst
    isplitl [HO]; · iexact HO
    isplitl [HtS] <;> iassumption
  iintro ⟨HcS, HO⟩
  subst hM hs hr
  -- the chunk has left
  iapply (Rounds.wp_wait_rest_token 𝒱₀ ER (rd m ρ) (c : Thread nD τ) none (κ := K (c, .inr (.inl h)))
      (wpE_waitDma2_eq 𝒱₀ (c : Thread nD τ) none Set.univ) (Set.mem_univ _) () (O := owesRecv c (2 - h.val)) (W := W) (R := 0) (m := 0) (T := ∅)
      (by rw [Nat.zero_add, expect_send])) $$ [HcS HO HatS]
  · isplitr; · iapply (known_inv m ρ K (c, .inr (.inl h))); iexact HK
    isplitl [HcS]; · iexact HcS
    isplitl [HO]; · iexact HO
    isplitr
    · iapply (mayWait_recv c (.dma (sendS h)) (2 - h.val) 0 (le_of_eq (if_neg (show ¬ 6 ≤ 3 + h.val by omega))) (by omega)); iexact Hlev
    iexact HatS
  iintro ⟨HO, HatS, -, Hpay⟩
  ihave Hsrc := (Entails.of_eq (rest_send m ρ c h)) $$ Hpay
  -- the other has come
  iapply (Rounds.wp_wait_rest_token 𝒱₀ ER (rd m ρ) (c : Thread nD τ) none (κ := K (c, .inr (.inr h)))
      (wpE_waitDma2_eq 𝒱₀ (c : Thread nD τ) none Set.univ) (Set.mem_univ _) () (O := owesRecv c (2 - h.val))
      (W := insert (SemLoc.dma (sendS h), ()) W) (R := 0) (m := 0) (T := ∅)
      (by rw [Nat.zero_add, expect_recv])) $$ [HcV HO HatV]
  · isplitr; · iapply (known_inv m ρ K (c, .inr (.inr h))); iexact HK
    isplitl [HcV]; · iexact HcV
    isplitl [HO]; · iexact HO
    isplitr
    · iapply (mayWait_recv c (.dma (recvS h)) (2 - h.val) (2 + h.val) (le_of_eq (lv_recv c h ())) (by omega)); iexact Hlev
    iexact HatV
  iintro ⟨HO, HatV, -, Hpay⟩
  ihave Hgot := (Entails.of_eq (rest_recv m ρ c h)) $$ Hpay
  -- both counters are done with
  imod (Rounds.cell_close ER (rd m ρ) (Set.mem_univ (K (c, .inr (.inl h)))) (fun h => h) (R := 0 + 1) (duties_later m ρ (sendCell c h))) $$ [HatS] with HzS
  · isplitr; · iapply (known_inv m ρ K (c, .inr (.inl h))); iexact HK
    iexact HatS
  imod (Rounds.cell_close ER (rd m ρ) (Set.mem_univ (K (c, .inr (.inr h)))) (fun h => h) (R := 0 + 1) (duties_later m ρ (recvCell c h))) $$ [HatV] with HzV
  · isplitr; · iapply (known_inv m ρ K (c, .inr (.inr h))); iexact HK
    iexact HatV
  iapply Hk $$ [Hsrc Hgot HzS HzV]
  · unfold stepDone sendPay recvPay
    isplitl [Hsrc]; · iexact Hsrc
    isplitl [Hgot]; · iexact Hgot
    isplitl [HzS] <;> iassumption
  iexists _; iexact HO

end Cert.RingSoftmax

end
-- ==== Proof.Body.lean ====
/-
What one device does, from its first load to its last store.
-/
module

public import proofs.«01_k».proof.Proof.Step

@[expose] public section

noncomputable section

namespace Cert.RingSoftmax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and ends with -/

/-- What device `c` leaves in its result: the softmax of the finished buffer. -/
def outAt (c : Dev nD) : (cc0_stg2_0 : Ref sig .tc).ty.Contents (Elt F) := k0_pay1 (full m ρ c)

/-- The ring's ghost state of device `c`: what is known of all counters, its place at its barrier, the two barrier units it
    pays, and what its three steps need. -/
def ghost (K : Dev nD × Site → ℕ) (c : Dev nD) : sProp 𝕄 :=
  iprop(known m ρ K ∗ atPos ER (barCell c) 0 ∅ 0
    ∗ dutyTok ER (barCell (prv c)) 0 true ∗ dutyTok ER (barCell (nxt c)) 0 false
    ∗ stepGhost c 0 ∗ stepGhost c 1 ∗ stepGhost c 2)

/-- That, with the units it will be paid, and the levels. -/
def start (c : Dev nD) : sProp 𝕄 :=
  iprop((∃ K, ghost m ρ K c) ∗ cred (tallyAt (barCell c) () 2)
    ∗ (cred (tallyAt (recvCell c 0) () N) ∗ cred (tallyAt (recvCell c 1) () N) ∗ cred (tallyAt (recvCell c 2) () N)) ∗ levAts L lv)

/-- At the end: the device's counters, all at zero. -/
def finish (c : Dev nD) : sProp 𝕄 :=
  iprop(semVal (barCell c) 0 ∗ (semVal (sendCell c 0) 0 ∗ semVal (recvCell c 0) 0)
    ∗ (semVal (sendCell c 1) 0 ∗ semVal (recvCell c 1) 0) ∗ (semVal (sendCell c 2) 0 ∗ semVal (recvCell c 2) 0))

/-- The launch's data: the arrays as given; the staging buffers after the one point; what holds before and after it; what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xOf m ρ c
    | ⟨1, _⟩ => wOf m ρ c
    | ⟨2, _⟩ => outAt m ρ c
  Φ t := match t with
    | ⟨0, _⟩ => start m ρ c
    | ⟨_ + 1, _⟩ => finish c
  q _ := fullShare
  owed t := match t with
    | ⟨0, _⟩ => O₀ c
    | ⟨_ + 1, _⟩ => 0

/-- `x` is fetched at the one point, -/
theorem fetch_x (t : Fin cfg0.N) : (cfg0.win (0 : Fin 3)).fetch t = true := by rw [fin_N0 t]; rfl
/-- and so is the block of `W`. -/
theorem fetch_w (t : Fin cfg0.N) : (cfg0.win (1 : Fin 3)).fetch t = true := by rw [fin_N0 t]; rfl

/-- Whatever was there before, the body finds `x` in its staging buffer, -/
theorem before_x (c : Dev nD) (d) : (dats m ρ 0 c).before (0 : Fin 3) t0_0 d = xOf m ρ c := by
  unfold Dat.before; rw [if_pos (fetch_x t0_0)]; rfl
/-- and the block of `W` in its own. -/
theorem before_w (c : Dev nD) (d) : (dats m ρ 0 c).before (1 : Fin 3) t0_0 d = wOf m ρ c := by
  unfold Dat.before; rw [if_pos (fetch_w t0_0)]; rfl

/-- All elements of the buffer `b` of device `c` are its own to use, and they are `X`. -/
abbrev stg (c : Dev nD) (b : Ref sig .tc) (X : b.ty.Contents (Elt F)) : sProp 𝕄 :=
  ((c : Thread nD τ).loc b) ↦{fullShare} (X : Buf (Elt F) ((c : Thread nD τ).loc b))

/-- That is what it means to own a buffer through the view of all of it. -/
theorem owns_stg (c : Dev nD) (b : Ref sig .tc) (X : b.ty.Contents (Elt F)) :
    (owns (c : Thread nD τ) (Memref.whole b) fullShare X : sProp 𝕄) = stg c b X := by
  unfold owns
  rw [Memref.view_whole, View.set_whole]
  have hto : (iprop(∃ f, ⌜View.read (Elt F) (View.whole b) f = X⌝ ∗ ((View.whole b).loc (c : Thread nD τ) ↦{fullShare} f)) : sProp 𝕄) ⊢ stg c b X := by
    iintro ⟨%f, %h, H⟩
    rw [View.read_whole] at h
    subst h
    iexact H
  have hfrom : (stg c b X : sProp 𝕄) ⊢ iprop(∃ f, ⌜View.read (Elt F) (View.whole b) f = X⌝ ∗ ((View.whole b).loc (c : Thread nD τ) ↦{fullShare} f)) := by
    iintro H
    iexists X
    isplitr; · ipureintro; exact View.read_whole _ _
    iexact H
  exact BI.Entails.antisymm hto hfrom

/-! ## Whole-buffer loads and stores -/

/-- The offset of a whole-buffer access is zero. -/
theorem origin : (![0, 0] : Fin 2 → ℕ) = fun _ => 0 := funext fun a => by fin_cases a <;> rfl

/-- A whole load of the buffer of `x` gives its contents; -/
theorem read_x (f : (cc0_stg0_0 : Ref sig .tc).ty.Contents (Elt F)) :
    xM.view.readAt (Elt F) (Rect.unit (s := S256x512) ![0, 0] S256x512.size inb_S256x512_S256x512_0_0).toLoadRect f = f :=
  Memref.readAt_unit_zero (Elt F) cc0_stg0_0 origin _ f
/-- so does one of the buffer of `W`, -/
theorem read_w (f : (cc0_stg1_0 : Ref sig .tc).ty.Contents (Elt F)) :
    wM.view.readAt (Elt F) (Rect.unit (s := S512x4096) ![0, 0] S512x4096.size inb_S512x4096_S512x4096_0_0).toLoadRect f = f :=
  Memref.readAt_unit_zero (Elt F) cc0_stg1_0 origin _ f
/-- and one of the result's. -/
theorem read_o (f : (cc0_stg2_0 : Ref sig .tc).ty.Contents (Elt F)) :
    oM.view.readAt (Elt F) (Rect.unit (s := S256x16384) ![0, 0] S256x16384.size inb_S256x16384_S256x16384_0_0).toLoadRect f = f :=
  Memref.readAt_unit_zero (Elt F) cc0_stg2_0 origin _ f
/-- After a whole store into the result's buffer it holds what was stored. -/
theorem write_o (f w : (cc0_stg2_0 : Ref sig .tc).ty.Contents (Elt F)) :
    (oM.access (Rect.unit (s := S256x16384) ![0, 0] S256x16384.size inb_S256x16384_S256x16384_0_0) : View sig .tc _ _ _).write (Elt F) f w Finset.univ = w :=
  Memref.write_access_unit_zero_univ (Elt F) cc0_stg2_0 origin _ f w

/-- The store of the product makes the device's own chunk what it is to be. -/
theorem write_own (c : Dev nD) (f : S256x16384.Idx → Elt F .f32) {off : Fin 2 → ℕ} (ho : off = ![0, 4096 * (place c).val])
    (hi : ∀ a, off a + S256x4096.size a ≤ S256x16384.size a) :
    ∀ i ∈ chunk (place c), (oM.access (Rect.unit (s := S256x16384) off S256x4096.size hi) : View sig .tc _ _ _).write (Elt F) f (prodOf m ρ c) Finset.univ i
      = full m ρ c i := by
  subst ho; exact store_full m ρ c f

/-! ## The body -/

section Body

variable (K : Dev nD × Site → ℕ)

/-- What the body starts from: the ring's ghost state under the names `K`, the units it will be paid, what it owes, and its three buffers. -/
def bodyPre (c : Dev nD) : sProp 𝕄 :=
  iprop((ghost m ρ K c ∗ cred (tallyAt (barCell c) () 2)
      ∗ (cred (tallyAt (recvCell c 0) () N) ∗ cred (tallyAt (recvCell c 1) () N) ∗ cred (tallyAt (recvCell c 2) () N)) ∗ levAts L lv)
    ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- What the body ends with: its counters at zero, nothing owed, and its three buffers, the result finished. -/
def bodyPost (c : Dev nD) : sProp 𝕄 :=
  iprop(finish c ∗ (dats m ρ 0 c).owesAt () t0_0.succ
    ∗ stg c cc0_stg0_0 (xOf m ρ c) ∗ stg c cc0_stg1_0 (wOf m ρ c) ∗ stg c cc0_stg2_0 (outAt m ρ c))

set_option maxHeartbeats 1600000 in
/-- The body, one rule per operation. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) cc0_scratch0 cc0_scratch1) Kt := by
  simp only [cc0_body_eq_skeleton, k0_part1_eq_skeleton, k0_part2_eq_skeleton, k0_part3_eq_skeleton, k0_part4_eq_skeleton, k0_part5_eq_skeleton]
  unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre ghost
  iintro ⟨⟨⟨⟨#HK, HatB, HtP, HtN, Hg0, Hg1, Hg2⟩, HcB, ⟨Hc0, Hc1, Hc2⟩, #Hlev⟩,
    Ho, ⟨%d0, Hx⟩, ⟨%d1, Hw⟩, ⟨%d2, Hout⟩⟩, Hk⟩
  rw [before_x, before_w]
  generalize (dats m ρ 0 c).before (2 : Fin 3) t0_0 d2 = g2
  unfold Dat.owesAt Pipeline.owesWithin
  icases Ho with ⟨%W, %hW, HO⟩
  rw [show (dats m ρ 0 c).owed t0_0.castSucc = O₀ c from rfl]
  simp only [dev1_eq c, dev2_eq c]
  -- the product, stored in the device's own chunk
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [read_w, show k0_pay4 (k0_pay2 (xOf m ρ c)) (k0_pay3 (wOf m ρ c)) = prodOf m ρ c from rfl]
  iapply (wp_load 𝒱₀ (c : Thread nD τ) none Set.univ (m := oM) (Finset.subset_univ _)) $$ Hout; iintro Hout
  iapply (wp_store 𝒱₀ (c : Thread nD τ) none Set.univ (m := oM) (r := Rect.unit (s := S256x16384) (k0_off1 c) S256x4096.size (k0_off1_inb c)) (Mk := Finset.univ) (Finset.subset_univ _)) $$ Hout; iintro Hout
  ihave Hout := (Entails.of_eq (whole_eq c _)) $$ Hout
  icases Hout with ⟨Hown, Hl0, Hl1, Hl2⟩
  ihave Hown := (Entails.of_eq (holds_congr c (place c) (write_own m ρ c g2 (k0_off1_eq c) (k0_off1_inb c)))) $$ Hown
  -- the signal to the left: leave to write this device's other three chunks
  iapply (Rounds.wp_signal 𝒱₀ ER (rd m ρ) (c : Thread nD τ) none (dst := (prv c : Thread nD τ)) (κ := K (prv c, .inl ()))
      (d := true) (by rw [duties_bar]; exact Finset.mem_univ _) ((amount_bar m ρ (prv c) true).trans (by decide)) () (O₁ c) rfl)
    $$ [HO HtP Hl0 Hl1 Hl2]
  · isplitr; · iapply (known_inv m ρ K (prv c, .inl ())); iexact HK
    isplitl [HO]; · iexact HO
    isplitl [HtP]; · iexact HtP
    isplitl [Hl0 Hl1 Hl2]
    · rw [payload_bar_true]; unfold barPay landing; rw [nxt_prv]
      isplitl [Hl0]; · iexists _; iexact Hl0
      isplitl [Hl1]; · iexists _; iexact Hl1
      iexists _; iexact Hl2
    · iapply (known_reached m ρ K (prv c, .inl ())); iexact HK
  iintro HO
  -- the signal to the right, with nothing
  unfold O₁
  iapply (Rounds.wp_signal 𝒱₀ ER (rd m ρ) (c : Thread nD τ) none (dst := (nxt c : Thread nD τ)) (κ := K (nxt c, .inl ()))
      (d := false) (by rw [duties_bar]; exact Finset.mem_univ _) ((amount_bar m ρ (nxt c) false).trans (by decide)) () (owesRecv c 3) rfl)
    $$ [HO HtN]
  · isplitr; · iapply (known_inv m ρ K (nxt c, .inl ())); iexact HK
    isplitl [HO]; · iexact HO
    isplitl [HtN]; · iexact HtN
    isplitr; · rw [payload_bar_false]; iempintro
    iapply (known_reached m ρ K (nxt c, .inl ())); iexact HK
  iintro HO
  -- the wait for both neighbours
  iapply (Rounds.wp_wait_rest_token 𝒱₀ ER (rd m ρ) (c : Thread nD τ) none (κ := K (c, .inl ()))
      (wpE_semWait_eq 𝒱₀ (c : Thread nD τ) none Set.univ) (Set.mem_univ _) () (O := owesRecv c 3) (W := W) (R := 0) (m := 0) (T := ∅)
      (by rw [expect_bar]; decide)) $$ [HcB HO HatB]
  · isplitr; · iapply (known_inv m ρ K (c, .inl ())); iexact HK
    isplitl [HcB]; · iexact HcB
    isplitl [HO]; · iexact HO
    isplitr; · iapply (mayWait_recv c (.reg barS) 3 1 (le_of_eq (lv_bar c ())) (by decide)); iexact Hlev
    iexact HatB
  iintro ⟨HO, HatB, -, Hpay⟩
  ihave Hp := (Entails.of_eq (rest_bar m ρ c)) $$ Hpay
  unfold barPay
  icases Hp with ⟨-, Hn0, Hn1, Hn2⟩
  imod (Rounds.cell_close ER (rd m ρ) (Set.mem_univ (K (c, .inl ()))) (fun h => h) (R := 0 + 1) (duties_later m ρ (barCell c))) $$ [HatB] with HzB
  · isplitr; · iapply (known_inv m ρ K (c, .inl ())); iexact HK
    iexact HatB
  -- the three steps
  rw [← passed_zero c]
  iapply (wp_step m ρ K c _ 0 _ _ _ (dev3_eq c) (slice_eq (passed c 0) (off2_eq c 0) _) send_name0 recv_name0) $$ [Hown Hn0 HO Hg0 Hc0]
  · isplitr; · iexact HK
    isplitr; · iexact Hlev
    isplitl [Hown]; · iexact Hown
    isplitl [Hn0]; · iexact Hn0
    isplitl [HO]; · iexists _; iexact HO
    isplitl [Hg0] <;> iassumption
  iintro Hd0 HO
  unfold stepDone
  icases Hd0 with ⟨Hp0, Ha0, Hz0⟩
  rw [← passed_one c]
  iapply (wp_step m ρ K c _ 1 _ _ _ (dev4_eq c) (slice_eq (passed c 1) (off2_eq c 1) _) send_name1 recv_name1) $$ [Ha0 Hn1 HO Hg1 Hc1]
  · isplitr; · iexact HK
    isplitr; · iexact Hlev
    isplitl [Ha0]; · iexact Ha0
    isplitl [Hn1]; · iexact Hn1
    isplitl [HO]; · iexact HO
    isplitl [Hg1] <;> iassumption
  iintro Hd1 HO
  unfold stepDone
  icases Hd1 with ⟨Hp1, Ha1, Hz1⟩
  rw [← passed_two c]
  iapply (wp_step m ρ K c _ 2 _ _ _ (dev5_eq c) (slice_eq (passed c 2) (off2_eq c 2) _) send_name2 recv_name2) $$ [Ha1 Hn2 HO Hg2 Hc2]
  · isplitr; · iexact HK
    isplitr; · iexact Hlev
    isplitl [Ha1]; · iexact Ha1
    isplitl [Hn2]; · iexact Hn2
    isplitl [HO]; · iexact HO
    isplitl [Hg2] <;> iassumption
  iintro Hd2 ⟨%W', HO⟩
  unfold stepDone
  icases Hd2 with ⟨Hp2, Ha2, Hz2⟩
  -- the whole buffer again, and its softmax
  ihave Hout := (Entails.of_eq (whole_eq c (full m ρ c)).symm) $$ [Hp0 Hp1 Hp2 Ha2]
  · rw [passed_zero, passed_one, passed_two]
    isplitl [Hp0]; · iexact Hp0
    isplitl [Hp1]; · iexact Hp1
    isplitl [Hp2] <;> iassumption
  iapply (wp_load 𝒱₀ (c : Thread nD τ) none Set.univ (m := oM) (Finset.subset_univ _)) $$ Hout; iintro Hout
  rw [read_o]
  iapply (wp_load 𝒱₀ (c : Thread nD τ) none Set.univ (m := oM) (Finset.subset_univ _)) $$ Hout; iintro Hout
  iapply (wp_store 𝒱₀ (c : Thread nD τ) none Set.univ (m := oM)
      (r := Rect.unit (s := S256x16384) ![0, 0] S256x16384.size inb_S256x16384_S256x16384_0_0) (Mk := Finset.univ) (Finset.subset_univ _)) $$ Hout; iintro Hout
  rw [write_o, wp_ret]; imodintro
  iapply Hk
  unfold bodyPost finish Dat.owesAt Pipeline.owesWithin
  rw [show (dats m ρ 0 c).owed t0_0.succ = 0 from rfl]
  isplitl [HzB Hz0 Hz1 Hz2]
  · isplitl [HzB]; · iexact HzB
    isplitl [Hz0]; · iexact Hz0
    isplitl [Hz1] <;> iassumption
  isplitl [HO]
  · iexists W'
    isplitr; · ipureintro; exact fun _ _ => Or.inl trivial
    iexact HO
  isplitl [Hx]; · iexact Hx
  isplitl [Hw]; · iexact Hw
  iexact Hout

set_option maxRecDepth 4000 in
/-- The same start with the names not yet known. -/
def bodyPre' (c : Dev nD) : sProp 𝕄 :=
  iprop(start m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 4000 in
/-- The body as the launch theorem asks for it. -/
theorem body_obligation (c : Dev nD) : BodyObligation (dats (F := F) m ρ 0 c) (defs₀ (F := F)) 𝒱₀ () Set.univ := fun t => by
  rw [fin_N0 t]
  rw [bigSep_W0, bigSep_W0]
  simp only [owns_stg]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) cc0_scratch0 cc0_scratch1) (fun _ => bodyPost m ρ c)
  unfold bodyPre' start
  iintro ⟨⟨⟨%K, Hg⟩, Hrest⟩, Ho, Hstg⟩
  iapply (sound_body m ρ K c fun _ => bodyPost m ρ c)
  unfold bodyPre
  isplitr []
  · isplitl [Hg Hrest]
    · isplitl [Hg] <;> iassumption
    isplitl [Ho] <;> iassumption
  · iintro H; iexact H

end Body

end Cert.RingSoftmax

end
-- ==== Proof.Launch.lean ====
/-
All devices at once: how the ring's ghost state is made and dealt out at launch, and what every run
of the program ends with.
-/
module

public import proofs.«01_k».proof.Proof.Body
public import Idealize.ShloMosaic.Lib.Pipeline.CollectiveSegs

@[expose] public section

noncomputable section

namespace Cert.RingSoftmax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The six scoped semaphores of the ring. -/
abbrev osem : Fin 3 ⊕ Fin 3 → SemLoc sig
  | .inl h => .dma (sendS h)
  | .inr h => .dma (recvS h)

/-- They are different from each other and from those of the staging. -/
theorem ownSemFacts : Pipeline.OwnSemFacts cfg0.spec osem := by decide

/-- A device owns them, at zero: its departures and its arrivals. -/
theorem ownSems_eq (c : Dev nD) : (Pipeline.ownSems0 (Ix := Unit) (Name := ℕ) (U := UU) (Lvl := ℕ) (Val := Elt F) (τ := τ) osem c : sProp 𝕄)
    = iprop((bigSep Finset.univ fun h : Fin 3 => semVal (sendCell c h) 0) ∗ bigSep Finset.univ fun h : Fin 3 => semVal (recvCell c h) 0) := by
  unfold Pipeline.ownSems0
  rw [bigSep_univ_sum]; rfl

/-- Its only semaphore that outlives the call is the barrier. -/
theorem unscoped_eq (c : Dev nD) : (unscopedSems0 c : sProp 𝕄) = semVal (barCell c) 0 := by
  unfold unscopedSems0; rw [bigSep_eq_bigSepL_of_eq [SemLoc.reg barS] (by decide) (by decide)]; rfl

/-! ## Lists over the sites -/

/-- Over the three steps. -/
theorem three (Φ : Fin 3 → sProp 𝕄) : bigSep Finset.univ Φ = iprop(Φ 0 ∗ Φ 1 ∗ Φ 2) :=
  bigSep_univ_eq_bigSepL [0, 1, 2] (by decide) (by decide) Φ

/-- Over a device's sites: the barrier, the departures, the arrivals. -/
theorem over_sites (Φ : Site → sProp 𝕄) : bigSep Finset.univ Φ
    = iprop(Φ (.inl ()) ∗ (bigSep Finset.univ fun h : Fin 3 => Φ (.inr (.inl h))) ∗ bigSep Finset.univ fun h : Fin 3 => Φ (.inr (.inr h))) := by
  rw [bigSep_univ_sum, bigSep_univ_sum, bigSep_univ_of_subsingleton ()]; rfl

/-- The semaphore of a site. -/
def siteSem : Site → SemLoc sig
  | .inl _ => .reg barS
  | .inr (.inl h) => .dma (sendS h)
  | .inr (.inr h) => .dma (recvS h)

/-- The counter of a site is the site's semaphore on that device. -/
theorem siteCell_eq (p : Dev nD × Site) : siteCell p = ((p.1 : Thread nD τ), siteSem p.2) := by
  rcases p with ⟨c, _ | _ | _⟩ <;> rfl

/-- Different sites have different semaphores, -/
theorem siteSem_injective : Function.Injective siteSem := by decide

/-- and so different counters. -/
theorem siteCell_injective : Function.Injective siteCell := fun p p' h => by
  rw [siteCell_eq, siteCell_eq] at h
  exact Prod.ext (congrArg (fun g : GSem nD τ sig => g.1.1) h) (siteSem_injective (congrArg Prod.snd h))

/-- All counters of the ring. -/
def ringCells : Finset (GSem nD τ sig) := Finset.univ.map ⟨siteCell, siteCell_injective⟩

/-- The duties at a device's counters: the barrier's two, a departure's, an arrival's. -/
abbrev Duty : Type := Bool ⊕ (Fin 3 ⊕ Fin 3)

/-- The counter and the name of a duty. -/
def dutySite : Duty → Site × Bool
  | .inl d => (.inl (), d)
  | .inr k => (.inr k, false)

/-- Different duties have different names or sites, -/
theorem dutySite_injective : Function.Injective dutySite := by decide

/-- The token of a duty. -/
def tokOf (p : Dev nD × Duty) : GSem nD τ sig × ℕ × Bool := (siteCell (p.1, (dutySite p.2).1), 0, (dutySite p.2).2)

/-- and so different tokens. -/
theorem tokOf_injective : Function.Injective tokOf := fun p p' h => by
  have h₁ := siteCell_injective (congrArg Prod.fst h)
  have h₂ : (dutySite p.2).2 = (dutySite p'.2).2 := congrArg (fun x : GSem nD τ sig × ℕ × Bool => x.2.2) h
  exact Prod.ext (congrArg (fun q : Dev nD × Site => q.1) h₁) (dutySite_injective (Prod.ext (congrArg (fun q : Dev nD × Site => q.2) h₁) h₂))

/-- All tokens of the ring. -/
def ringToks : Finset (GSem nD τ sig × ℕ × Bool) := Finset.univ.map ⟨tokOf, tokOf_injective⟩

/-- The launch's ghost state: the pipeline's, and the ring's. -/
def u₀ : UU :=
  (initOf (Pipeline.cells cfgs cellOf_inj) (Pipeline.launchToks cfgs cellOf_inj), initOf ringCells ringToks)

/-! ## Dealing it out -/

/-- The duty tokens of a device's own counters. -/
def toks (c : Dev nD) : sProp 𝕄 :=
  iprop((dutyTok ER (barCell c) 0 false ∗ dutyTok ER (barCell c) 0 true)
    ∗ (bigSep Finset.univ fun h : Fin 3 => dutyTok ER (sendCell c h) 0 false) ∗ bigSep Finset.univ fun h : Fin 3 => dutyTok ER (recvCell c h) 0 false)

/-- A device's places in the rounds of its counters. -/
def places (c : Dev nD) : sProp 𝕄 := bigSep Finset.univ fun k : Site => atPos ER (siteCell (c, k)) 0 ∅ 0
/-- That the first rounds of a device's counters have begun. -/
def marks (c : Dev nD) : sProp 𝕄 := bigSep Finset.univ fun k : Site => reached ER (siteCell (c, k)) 0

/-- What the launch gives a device first: its own counters' rounds, places, marks and tokens. -/
def G (c : Dev nD) : sProp 𝕄 :=
  iprop((bigSep Finset.univ fun k : Site => roundState ER (rd m ρ) (siteCell (c, k)) 0) ∗ places c ∗ marks c ∗ toks c)

/-- What it has once tokens have gone round: what it needs. -/
def G' (c : Dev nD) : sProp 𝕄 := iprop(∃ K, ghost m ρ K c)

/-- Over all counters: device by device, site by site. -/
theorem over_cells (Φ : GSem nD τ sig → sProp 𝕄) :
    bigSep ringCells Φ = bigSep Finset.univ fun c : Dev nD => bigSep Finset.univ fun k : Site => Φ (siteCell (c, k)) := by
  unfold ringCells; rw [bigSep_map, bigSep_univ_prod]; rfl

/-- Over all tokens: device by device. -/
theorem over_toks : bigSep ringToks (fun x => (dutyTok ER x.1 x.2.1 x.2.2 : sProp 𝕄)) = bigSep Finset.univ fun c : Dev nD => toks c := by
  unfold ringToks; rw [bigSep_map, bigSep_univ_prod]
  refine bigSep_congr fun c _ => ?_
  rw [bigSep_univ_sum, bigSep_univ_sum, bigSep_univ_eq_bigSepL [false, true] (by decide) (by decide)]
  rfl

/-- The ring's part of the launch's ghost state gives every device the rounds, places, marks and tokens of its counters. -/
theorem fund : BI.own (ER (initOf ringCells ringToks)) ⊢ (|==> bigSep Finset.univ (G m ρ) : sProp 𝕄) := by
  iintro HX
  imod (Rounds.fund ER (rd m ρ) ringCells ringToks) $$ HX with ⟨Hst, Hr, Hat, Htok⟩
  imodintro
  ihave Hst' := (Entails.of_eq (over_cells fun g => roundState ER (rd m ρ) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G places marks; simp only [bigSep_sep']
  isplitl [Hst']; · iexact Hst'
  isplitl [Hat']; · iexact Hat'
  isplitl [Hr'] <;> iassumption

/-- A device's counters at zero and their rounds make their invariants. -/
theorem alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Site => iprop(∃ κ : ℕ, cellInv ER (rd m ρ) κ (siteCell (c, k)))) ∗ places c ∗ marks c ∗ toks c) := by
  have hmake : iprop((bigSep Finset.univ fun k : Site => semVal (siteCell (c, k)) 0) ∗ bigSep Finset.univ fun k : Site => roundState ER (rd m ρ) (siteCell (c, k)) 0)
      ⊢ (|={Set.univ}=> bigSep Finset.univ fun k : Site => iprop(∃ κ : ℕ, cellInv ER (rd m ρ) κ (siteCell (c, k))) : sProp 𝕄) := by
    rw [← bigSep_sep']
    exact (bigSep_mono fun k _ => (Rounds.body_intro ER (rd m ρ) (siteCell (c, k))).trans inv_alloc).trans (bigSep_fupd _ _)
  unfold G
  rw [ownSems_eq, unscoped_eq]
  iintro ⟨⟨HS, HV⟩, HB, Hst, Hrest⟩
  imod hmake $$ [HS HV HB Hst] with Hinv
  · isplitr [Hst]
    · rw [over_sites]
      isplitl [HB]; · iexact HB
      isplitl [HS]; · iexact HS
      iexact HV
    · iexact Hst
  imodintro
  isplitl [Hinv]; · iexact Hinv
  iexact Hrest

/-- The duties a device pays: two barrier units, its departures, its right neighbour's arrivals. -/
def pays (c : Dev nD) : sProp 𝕄 :=
  iprop(dutyTok ER (barCell (prv c)) 0 true ∗ dutyTok ER (barCell (nxt c)) 0 false
    ∗ (bigSep Finset.univ fun h : Fin 3 => dutyTok ER (sendCell c h) 0 false) ∗ bigSep Finset.univ fun h : Fin 3 => dutyTok ER (recvCell (nxt c) h) 0 false)

/-- Going once round the row, the tokens reach those who pay. -/
theorem toks_pays : (bigSep Finset.univ fun c : Dev nD => (toks c : sProp 𝕄)) ⊢ bigSep Finset.univ fun c : Dev nD => pays c := by
  unfold toks pays
  simp only [bigSep_sep']
  rw [bigSep_univ_equiv turn (fun c : Dev nD => (dutyTok ER (barCell c) 0 false : sProp 𝕄)),
    bigSep_univ_equiv turn.symm (fun c : Dev nD => (dutyTok ER (barCell c) 0 true : sProp 𝕄)),
    bigSep_univ_equiv turn (fun c : Dev nD => bigSep Finset.univ fun h : Fin 3 => (dutyTok ER (recvCell c h) 0 false : sProp 𝕄))]
  iintro ⟨⟨H1, H2⟩, H3, H4⟩
  isplitl [H2]; · iexact H2
  isplitl [H1]; · iexact H1
  isplitl [H3]; · iexact H3
  iexact H4

/-- Knowing all counters, a device's places and the duties it pays are what its body starts from. -/
theorem ghost_of (K : Dev nD × Site → ℕ) (c : Dev nD) : iprop(known m ρ K ∗ places c ∗ pays c) ⊢ G' m ρ c := by
  have hsteps : iprop(stepGhost c 0 ∗ stepGhost c 1 ∗ stepGhost c 2)
      = (iprop((bigSep Finset.univ fun h : Fin 3 => atPos ER (sendCell c h) 0 ∅ 0) ∗ (bigSep Finset.univ fun h : Fin 3 => atPos ER (recvCell c h) 0 ∅ 0)
        ∗ (bigSep Finset.univ fun h : Fin 3 => dutyTok ER (sendCell c h) 0 false) ∗ bigSep Finset.univ fun h : Fin 3 => dutyTok ER (recvCell (nxt c) h) 0 false) : sProp 𝕄) := by
    rw [← three (fun h => stepGhost c h)]
    unfold stepGhost
    simp only [bigSep_sep']
  unfold places pays G' ghost
  rw [over_sites, hsteps]
  iintro ⟨#HK, ⟨HB, HS, HV⟩, HtP, HtN, HtS, HtV⟩
  iexists K
  isplitr; · iexact HK
  isplitl [HB]; · iexact HB
  isplitl [HtP]; · iexact HtP
  isplitl [HtN]; · iexact HtN
  isplitl [HS]; · iexact HS
  isplitl [HV]; · iexact HV
  isplitl [HtS] <;> iassumption

/-- From every device's invariants, places, marks and tokens, every device has what it needs. -/
theorem deal :
    (bigSep Finset.univ fun c : Dev nD => iprop((bigSep Finset.univ fun k : Site => iprop(∃ κ : ℕ, cellInv ER (rd m ρ) κ (siteCell (c, k)))) ∗ places c ∗ marks c ∗ toks c) : sProp 𝕄)
      ⊢ bigSep Finset.univ (G' m ρ) := by
  simp only [bigSep_sep']
  rw [← bigSep_univ_prod (fun p : Dev nD × Site => iprop(∃ κ : ℕ, cellInv ER (rd m ρ) κ (siteCell p)))]
  unfold marks
  rw [← bigSep_univ_prod (fun p : Dev nD × Site => (reached ER (siteCell p) 0 : sProp 𝕄))]
  iintro ⟨HI, Hat, #HR, Htok⟩
  ihave HK := (BI.bigSep_exists_pi Finset.univ (fun (p : Dev nD × Site) (κ : ℕ) => (cellInv ER (rd m ρ) κ (siteCell p) : sProp 𝕄))) $$ HI
  icases HK with ⟨%K, #HI⟩
  ihave Hp := (toks_pays (F := F)) $$ Htok
  have hall : (iprop(known m ρ K ∗ (bigSep Finset.univ fun c : Dev nD => places c) ∗ bigSep Finset.univ fun c : Dev nD => pays c) : sProp 𝕄)
      ⊢ bigSep Finset.univ (G' m ρ) := by
    refine (sep_mono_left (BI.bigSep_of_persistent (Finset.univ : Finset (Dev nD)) (known m ρ K))).trans ?_
    rw [← bigSep_sep', ← bigSep_sep']
    exact bigSep_mono fun c _ => ghost_of m ρ K c
  iapply hall
  isplitr
  · unfold known; isplitl; · iexact HI
    iexact HR
  isplitl [Hat] <;> iassumption

/-- All devices' semaphores at zero and what they were first given make what all of them need. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc m ρ c).trans (bigSep_fupd _ _)).trans (BI.fupd_mono (deal m ρ))

/-! ## The launch's credits -/

/-- Units that everybody owes the right neighbour are units that everybody is paid; -/
theorem cred_from_left (sm : SemLoc sig) (n : ℕ) (c : Dev nD) :
    (Pipeline.launchCred (fun d => tallyAt ((nxt d : Thread nD τ), sm) () n) c : sProp 𝕄) ⊢ cred (tallyAt ((c : Thread nD τ), sm) () n) :=
  Pipeline.launchCred_tallyAt sm nxt prv nxt_prv prv_nxt () n c
/-- so are units that everybody owes the left neighbour. -/
theorem cred_from_right (sm : SemLoc sig) (n : ℕ) (c : Dev nD) :
    (Pipeline.launchCred (fun d => tallyAt ((prv d : Thread nD τ), sm) () n) c : sProp 𝕄) ⊢ cred (tallyAt ((c : Thread nD τ), sm) () n) :=
  Pipeline.launchCred_tallyAt sm prv nxt prv_nxt nxt_prv () n c

/-- What all devices owe at launch pays each device two units at its barrier and a chunk's worth at each of its arrivals. -/
theorem creds (c : Dev nD) : (Pipeline.launchCred O₀ c : sProp 𝕄) ⊢ iprop(cred (tallyAt (barCell c) () 2)
      ∗ cred (tallyAt (recvCell c 0) () N) ∗ cred (tallyAt (recvCell c 1) () N) ∗ cred (tallyAt (recvCell c 2) () N)) := by
  have hO : (O₀ : Dev nD → CellTallies nD τ sig Unit) = fun d => (((tallyAt (recvCell (nxt d) 2) () N + tallyAt (recvCell (nxt d) 1) () N)
      + tallyAt (recvCell (nxt d) 0) () N) + tallyAt (barCell (nxt d)) () 1) + tallyAt (barCell (prv d)) () 1 := rfl
  rw [hO, Pipeline.launchCred_add, Pipeline.launchCred_add, Pipeline.launchCred_add, Pipeline.launchCred_add]
  iintro ⟨⟨⟨⟨H2, H1⟩, H0⟩, HN⟩, HP⟩
  ihave H2' := (cred_from_left (F := F) (.dma (recvS 2)) N c) $$ H2
  ihave H1' := (cred_from_left (F := F) (.dma (recvS 1)) N c) $$ H1
  ihave H0' := (cred_from_left (F := F) (.dma (recvS 0)) N c) $$ H0
  ihave HN' := (cred_from_left (F := F) (.reg barS) 1 c) $$ HN
  ihave HP' := (cred_from_right (F := F) (.reg barS) 1 c) $$ HP
  isplitl [HN' HP']
  · rw [← tallyAt_add (barCell c) () 1 1]
    iapply (cred_add _ _).2
    isplitl [HN'] <;> iassumption
  isplitl [H0']; · iexact H0'
  isplitl [H1'] <;> iassumption

/-! ## The launch theorem's conditions -/

/-- Every array is held whole. -/
theorem share_eq (c : Dev nD) (w : Fin cfg0.W) : (dats m ρ 0 c).share w = fullShare := by unfold Dat.share; split <;> rfl

/-- What a device is given at launch makes what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN] <;> iassumption
  · iempintro

/-- The body starts from it, -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs

/-- and ends with the device's semaphores, all at zero. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = finish c from rfl, scopedRest0_eq, ownSems_eq, unscoped_eq, three, three]
  unfold finish
  iintro ⟨HB, ⟨HS0, HV0⟩, ⟨HS1, HV1⟩, HS2, HV2⟩
  isplitl [HB]; · iexact HB
  isplitl
  · isplitl [HS0 HS1 HS2]
    · isplitl [HS0]; · iexact HS0
      isplitl [HS1] <;> iassumption
    · isplitl [HV0]; · iexact HV0
      isplitl [HV1] <;> iassumption
  · iempintro

/-- The staging's waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What device `c`'s array of window `w` holds in the end. -/
def finalA (c : Dev nD) (w : Fin cfg0.W) : Buf (Elt F) ((cfg0.win w).arr.view.loc (c : Thread nD τ)) := (dats m ρ 0 c).arrAt w cfg0.N

/-- The run ends with every device's arrays at these contents. -/
def arrays (r : PUnit × MemSt nD τ sig (Elt F)) : Prop :=
  ∀ c : Dev nD, ∀ w : Fin cfg0.W, r.2.mem ((cfg0.win w).arr.view.loc (c : Thread nD τ)) = finalA m ρ c w

set_option maxRecDepth 8000 in
/-- From any memory with all counters zero, whatever the float values are, every run on the 32 devices ends, with every
    device's arrays at the stated contents and every counter at zero. -/
theorem run_main : θ_run defs (onTc (τ := τ) (main (F := F))) (s₀ m ρ) (fun r => arrays m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays in the end -/

/-- `x` is as it was, -/
theorem finalA_x (c : Dev nD) : finalA m ρ c (0 : Fin 3) = m ((c : Thread nD τ).loc main_arg0) :=
  (dats (F := F) m ρ 0 c).arrAt_in (0 : Fin 3) rfl _
/-- and so is the block of `W`. -/
theorem finalA_w (c : Dev nD) : finalA m ρ c (1 : Fin 3) = m ((c : Thread nD τ).loc main_arg1) :=
  (dats (F := F) m ρ 0 c).arrAt_in (1 : Fin 3) rfl _

end Cert.RingSoftmax

end
-- ==== Proof.Result.lean ====
/-
The array a device's result ends in: all of it is what the device left in its buffer.
-/
module

public import proofs.«01_k».proof.Proof.Launch

@[expose] public section

noncomputable section

namespace Cert.RingSoftmax

open Cert.KernelIdeal Cert.KernelIdeal.Gen
open Idealize.ShloMosaic Idealize.ShloMosaic.TcCoe
open Idealize.SL.Sem

variable {F : FTy → Type} [FloatOps F] (m : (ℓ : Loc nD τ sig) → Buf (Elt F) ℓ) (ρ : Dev nD → PrngReg)

/-- The one block of the result's array is the array; it is written once, at the end. -/
theorem finalA_out (c : Dev nD) : finalA m ρ c (2 : Fin 3) = outAt m ρ c := by
  have hlast : finalA m ρ c (2 : Fin 3) = (dats m ρ 0 c).arrAt (2 : Fin 3) (((0 : Fin 1) : Fin cfg0.N).val + 1) := rfl
  have hflush : (cfg0.win (2 : Fin 3)).flush (0 : Fin 1) = true := by decide
  have hread : (win0_2.blk (0 : Fin 1)).view.read (Elt F) (finalA m ρ c (2 : Fin 3)) = outAt m ρ c := by
    rw [hlast, (dats m ρ 0 c).arrAt_succ (2 : Fin 3) (0 : Fin 1), hflush, if_pos rfl]
    exact View.read_write_univ _ _
  exact (Memref.read_access_unit_zero (Elt F) main_v1 (funext fun a => by fin_cases a <;> decide)
    (fun a => by fin_cases a <;> decide) _).symm.trans hread

end Cert.RingSoftmax

end
-- ==== Proof.Product.lean ====
/-
The product at the ideal instance: when `x` is the same on all devices and each holds the block of
columns of `W` that its place in its row names, the finished buffer of every device is `x · W`, as
the reference computes it.
-/
module

public import proofs.«01_k».proof.Proof.Chunks
public import proofs.«01_k».proof.Proof.Gen.ReferenceIdeal
public import Idealize.ShloMosaic.Lib.Layout

@[expose] public section

noncomputable section

namespace Cert.RingSoftmax

open Cert.KernelIdeal Cert.KernelIdeal.Gen
open Idealize.ShloMosaic Idealize.ShloMosaic.TcCoe
open Idealize.SL.Sem

section
variable {F : FTy → Type} [FloatOps F] (m : (ℓ : Loc nD τ sig) → Buf (Elt F) ℓ) (ρ : Dev nD → PrngReg)

/-- What device `c` reads of `x` is its whole array; -/
theorem xOf_eq (c : Dev nD) : xOf m ρ c = m ((c : Thread nD τ).loc main_arg0) :=
  Memref.read_access_unit_zero (Elt F) main_arg0 (funext fun a => by fin_cases a <;> decide) (fun a => by fin_cases a <;> decide) _
/-- and what it reads of `W`, its whole block. -/
theorem wOf_eq (c : Dev nD) : wOf m ρ c = m ((c : Thread nD τ).loc main_arg1) :=
  Memref.read_access_unit_zero (Elt F) main_arg1 (funext fun a => by fin_cases a <;> decide) (fun a => by fin_cases a <;> decide) _
end

/-! ## Elements -/

/-- An element of the product a device computes. -/
theorem prod_apply (x : FVec Ideal S256x512 .f32) (w : FVec Ideal S512x4096 .f32) (j : S256x4096.Idx) :
    k0_pay4 (F := Ideal) (k0_pay2 (F := Ideal) x) (k0_pay3 (F := Ideal) w) j = ∑ k : Fin 512, x (ix2 (j 0) k) * w (ix2 k (j 1)) := by
  pointwise [k0_pay4, k0_pay2, k0_pay3]

/-- The reference's product of `x` and the whole of `W`. -/
def whole (x : FVec Ideal S256x512 .f32) (W : FVec Ideal Cert.ReferenceIdeal.S512x16384 .f32) : FVec Ideal S256x16384 .f32 :=
  Host.dotGeneral Cert.ReferenceIdeal.dot_S256x512_S512x16384_S256x16384_1_0_0_1_n_n none x W

/-- An element of it. -/
theorem whole_apply (x : FVec Ideal S256x512 .f32) (W : FVec Ideal Cert.ReferenceIdeal.S512x16384 .f32) (i : S256x16384.Idx) :
    whole x W i = ∑ k : Fin 512, x (ix2 (i 0) k) * W (ix2 k (i 1)) := by
  pointwise [whole]

/-! ## Blocks of `W` -/

/-- Device `c`'s block of `W`: its place's 4096 columns. -/
def blockOf (W : FVec Ideal Cert.ReferenceIdeal.S512x16384 .f32) (c : Dev nD) : FVec Ideal S512x4096 .f32 :=
  Layout.blockN ⟨2, ![512, 4096]⟩ ⟨2, ![512, 16384]⟩ (Layout.meshBlock [2, 4, 4] ![[], [2]] c) W

/-- The number of the block of columns that device `c` holds is its place. -/
theorem block_place (c : Dev nD) : ((Layout.meshBlock [2, 4, 4] ![[], [2]] c) 1).val = (place c).val := by
  revert c; decide +kernel
/-- The rows of `W` are not divided. -/
theorem block_rows (c : Dev nD) : ((Layout.meshBlock [2, 4, 4] ![[], [2]] c) 0).val = 0 := by
  revert c; decide +kernel

/-- Column `b` of the whole of `W` is, in the block of the device at the place the column falls to, column `b` modulo 4096. -/
theorem block_at (W : FVec Ideal Cert.ReferenceIdeal.S512x16384 .f32) (c : Dev nD) (i : S256x16384.Idx) (k : Fin 512) :
    blockOf W (peer c (chunkOf i)) (ix2 k ((within i) 1)) = W (ix2 k (i 1)) := by
  refine (Layout.blockN_apply _ _ _ _).trans (congrArg W (eq_ix2 _ |>.trans ?_))
  congr 1 <;> apply Fin.ext
  · show ((Layout.meshBlock [2, 4, 4] ![[], [2]] (peer c (chunkOf i))) 0).val * 512 + k.val = k.val
    rw [block_rows]
    omega
  · show ((Layout.meshBlock [2, 4, 4] ![[], [2]] (peer c (chunkOf i))) 1).val * 4096 + (i 1).val % 4096 = (i 1).val
    rw [block_place, place_peer]
    show (i 1).val / 4096 * 4096 + (i 1).val % 4096 = (i 1).val
    omega

/-! ## The finished buffer -/

/-- On arguments laid out that way, every device's finished buffer is the product of `x` and the whole of `W`. -/
theorem full_eq (m : (ℓ : Loc nD τ sig) → Buf (Elt Ideal) ℓ) (ρ : Dev nD → PrngReg) (x : FVec Ideal S256x512 .f32)
    (W : FVec Ideal Cert.ReferenceIdeal.S512x16384 .f32) (hx : ∀ c : Dev nD, m ((c : Thread nD τ).loc main_arg0) = x)
    (hw : ∀ c : Dev nD, m ((c : Thread nD τ).loc main_arg1) = blockOf W c) (c : Dev nD) : full m ρ c = whole x W := by
  funext i
  unfold full prodOf
  rw [xOf_eq, wOf_eq, hx, hw, whole_apply]
  refine (prod_apply _ _ _).trans (Finset.sum_congr rfl fun k _ => ?_)
  exact congrArg (x (ix2 (i 0) k) * ·) (block_at W c i k)

end Cert.RingSoftmax

end
-- ==== Proof.Softmax.lean ====
/-
The softmax of the rows of a 256 × 16384 array, at the ideal instance: what the kernel's last store
computes from the finished buffer, and what the reference computes from the whole product, are both
the same function of the array.
-/
module

public import proofs.«01_k».proof.Proof.Gen.KernelIdeal.Skeleton
public import proofs.«01_k».proof.Proof.Gen.ReferenceIdeal
public import Idealize.ShloMosaic.Lib.Pointwise

@[expose] public section

noncomputable section

namespace Cert.RingSoftmax

open Idealize.ShloMosaic

/-- A 256 × 16384 array of extended reals. -/
abbrev Rows : Type := FVec Ideal Cert.KernelIdeal.S256x16384 .f32

/-- The largest element of row `a`, from minus infinity on. -/
def rowMax (v : Rows) (a : Fin 256) : Ideal .f32 :=
  Finset.univ.fold max (Ideal.ofBits .f32 0xFF800000#32) fun k => v (ix2 a k)

/-- The exponential of an element less its row's largest. -/
def expo (v : Rows) (a : Fin 256) (b : Fin 16384) : Ideal .f32 := Ideal.exp (v (ix2 a b) - rowMax v a)

/-- The softmax of each row. -/
def softmax (v : Rows) : Rows := fun j => Ideal.div (expo v (j 0) (j 1)) (∑ k, expo v (j 0) k)

/-- The kernel's last payload is the softmax of what it read. -/
theorem payload_softmax (v : Rows) : Cert.KernelIdeal.Gen.k0_pay1 (F := Ideal) v = softmax v := by
  funext j
  pointwise [Cert.KernelIdeal.Gen.k0_pay1, softmax, expo, rowMax]

section
open Cert.ReferenceIdeal Cert.ReferenceIdeal.Facts₀

/-- The exponentials as the reference computes them: each row's largest is taken, laid out over the row and subtracted. -/
def hostExpo (v : FVec Ideal S256x16384 .f32) : FVec Ideal S256x16384 .f32 :=
  Host.exp (subf v (broadcastInDim S256x16384 ![0, 1] bcast_S256x1_S256x16384_0_1 (broadcastInDim S256x1 ![0] bcast_S256_S256x1_0
    (Host.reduce FloatOps.maximumf v (constant S_ .f32 0xFF800000#32) reducesTo_S256x16384_S256_d1 h_S_))))

/-- What the reference makes of the product. -/
def hostSoftmax (v : FVec Ideal S256x16384 .f32) : FVec Ideal S256x16384 .f32 :=
  Host.divf (hostExpo v) (broadcastInDim S256x16384 ![0, 1] bcast_S256x1_S256x16384_0_1 (broadcastInDim S256x1 ![0] bcast_S256_S256x1_0
    (Host.reduceAdd (hostExpo v) (constant S_ .f32 0x00000000#32) reducesTo_S256x16384_S256_d1 h_S_)))

/-- It is the softmax of each row. -/
theorem host_softmax (v : FVec Ideal S256x16384 .f32) : hostSoftmax v = softmax v := by
  funext j
  pointwise [hostSoftmax, hostExpo, softmax, expo, rowMax]
end

end Cert.RingSoftmax

end
-- ==== Proof.lean ====
/-
The proof of `Cert.Claim`: that the kernel and the reference run and leave their arguments and all
counters as they were, at bit patterns and at ideal values, and that on ideal values every device's
result is the reference's.
-/
module

public import proofs.«01_k».proof.Defs
public import proofs.«01_k».proof.Proof.SameText
public import proofs.«01_k».proof.Proof.Gen.ReferenceIdeal.Run
public import proofs.«01_k».proof.Proof.Result
public import proofs.«01_k».proof.Proof.Product
public import proofs.«01_k».proof.Proof.Softmax
public import Idealize.ShloMosaic.Lib.Quiescent

@[expose] public section

noncomputable section

namespace Cert.Proof

open Idealize.ShloMosaic Idealize.ShloMosaic.TcCoe Idealize.SL.Sem
open Cert.RingSoftmax

/-- Whatever the float values are, the kernel runs, and leaves its arguments and all counters as they were. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1))
      ∧ r.2.sem = fun _ => 0 :=
  (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main (F := F) m ρ)

/-- So on bit patterns; the kernel's program there is the same text. -/
theorem frame_kernel : Cert.quiescent_Kernel := by
  intro m ρ _
  rw [table_eq]
  exact frame_any (F := Bits) m ρ

/-- So on ideal values. -/
theorem frame_kernelIdeal : Cert.quiescent_KernelIdeal := fun m ρ _ => frame_any (F := Ideal) m ρ

/-- The reference runs on ideal values, and leaves its arguments and all counters as they were. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- On arguments laid out as the claim says, each device's result is the softmax of the whole product. -/
theorem result_eq (m : (ℓ : Loc Cert.KernelIdeal.nD Cert.KernelIdeal.τ Cert.KernelIdeal.sig) → Buf (Elt Ideal) ℓ)
    (ρ : Dev Cert.KernelIdeal.nD → PrngReg) (x : FVec Ideal Cert.KernelIdeal.S256x512 .f32)
    (W : FVec Ideal Cert.ReferenceIdeal.S512x16384 .f32)
    (hx : ∀ c : Dev Cert.KernelIdeal.nD, m ((c : Thread Cert.KernelIdeal.nD Cert.KernelIdeal.τ).loc Cert.KernelIdeal.main_arg0) = x)
    (hw : ∀ c : Dev Cert.KernelIdeal.nD, m ((c : Thread Cert.KernelIdeal.nD Cert.KernelIdeal.τ).loc Cert.KernelIdeal.main_arg1) = blockOf W c)
    (c : Dev Cert.KernelIdeal.nD) : finalA m ρ c (2 : Fin 3) = softmax (whole x W) := by
  refine (finalA_out m ρ c).trans ?_
  unfold outAt
  rw [payload_softmax, full_eq m ρ x W hx hw c]

/-- From arguments laid out that way both run, and every device's result is the reference's. -/
theorem algebraic : Cert.algebraic_KernelIdeal_ReferenceIdeal := by
  intro m ρ m' ρ' _ hargs
  refine ⟨softmax (whole (m' ((0 : Dev Cert.ReferenceIdeal.nD).tc.loc Cert.ReferenceIdeal.main_arg0))
    (m' ((0 : Dev Cert.ReferenceIdeal.nD).tc.loc Cert.ReferenceIdeal.main_arg1))), ?_, ?_⟩
  · refine (θ_run Cert.KernelIdeal.defs _ _).mono (fun r h c => ⟨?_, ?_, ?_⟩) (run_main (F := Ideal) m ρ)
    · exact (h.1 c (2 : Fin 3)).trans (result_eq m ρ _ _ (fun d => (hargs d).1) (fun d => (hargs d).2) c)
    · exact (h.1 c (0 : Fin 3)).trans (finalA_x m ρ c)
    · exact (h.1 c (1 : Fin 3)).trans (finalA_w m ρ c)
  · exact (θ_run Cert.ReferenceIdeal.defs _ _).mono
      (fun r h => ⟨(h 0).1.trans (host_softmax _), (h 0).2⟩) (Cert.ReferenceIdeal.Value.run (F := Ideal) m' ρ')

/-- All that is claimed. -/
theorem claim : Cert.Claim :=
  ⟨Cert.Kernel.Gen.facts, Cert.KernelIdeal.Gen.facts, Cert.ReferenceIdeal.Gen.facts, frame_kernel, frame_kernelIdeal, frame_reference,
    trivial, algebraic⟩

end Cert.Proof

end
